-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 256, 256]⟩ ⟨4, ![2, 2, 256, 256]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x256x256 : Shape := ⟨4, ![1, 1, 256, 256]⟩
abbrev S256x256 : Shape := ⟨2, ![256, 256]⟩
abbrev S2x256x256 : Shape := ⟨3, ![2, 256, 256]⟩
abbrev S2x4 : Shape := ⟨2, ![2, 4]⟩
abbrev S2x2x4 : Shape := ⟨3, ![2, 2, 4]⟩
abbrev S1x1 : Shape := ⟨2, ![1, 1]⟩
abbrev S_ : Shape := ⟨0, ![]⟩
abbrev S32x256 : Shape := ⟨2, ![32, 256]⟩
abbrev S1x1x32x256 : Shape := ⟨4, ![1, 1, 32, 256]⟩
abbrev S1x1x1 : Shape := ⟨3, ![1, 1, 1]⟩
abbrev S1x32x256 : Shape := ⟨3, ![1, 32, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x1x256x256, .f32⟩
  | .hbm, ⟨1, _⟩ => ⟨S256x256, .bf16⟩
  | .local _ .vmem, ⟨0, _⟩ => ⟨S256x256, .bf16⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S2x256x256, .bf16⟩
  | _, _ => ⟨S1x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v49 : BitVec 32 := Scalar.muli v6 c2_i32_60
  let v50 : BitVec 32 := Scalar.addi c0_i32_61 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v51 : BitVec 32 := Scalar.muli v5 c1_i32_62
  let v52 : BitVec 32 := Scalar.addi v50 v51
  v52.toNat
def k0_dev2 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v53 : BitVec 32 := Scalar.muli v2 c2_i32_64
  let v54 : BitVec 32 := Scalar.addi c0_i32_65 v53
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_66 : BitVec 32 := 1#32
  let v55 : BitVec 32 := Scalar.muli v7 c1_i32_66
  let v56 : BitVec 32 := Scalar.addi v54 v55
  v56.toNat
def k0_dev3 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v67 : BitVec 32 := Scalar.muli v6 c2_i32_86
  let v68 : BitVec 32 := Scalar.addi c0_i32_87 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v69 : BitVec 32 := Scalar.muli v5 c1_i32_88
  let v70 : BitVec 32 := Scalar.addi v68 v69
  v70.toNat
def k0_dev4 (d0 : Dev nD) : Nat :=
  let c0_i32_112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_111 : BitVec 32 := 2#32
  let v88 : BitVec 32 := Scalar.muli v2 c2_i32_111
  let v89 : BitVec 32 := Scalar.addi c0_i32_112 v88
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_113 : BitVec 32 := 1#32
  let v90 : BitVec 32 := Scalar.muli v7 c1_i32_113
  let v91 : BitVec 32 := Scalar.addi v89 v90
  v91.toNat
def k0_dev5 (d0 : Dev nD) : Nat :=
  let c0_i32_137 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_136 : BitVec 32 := 2#32
  let v109 : BitVec 32 := Scalar.muli v6 c2_i32_136
  let v110 : BitVec 32 := Scalar.addi c0_i32_137 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_138 : BitVec 32 := 1#32
  let v111 : BitVec 32 := Scalar.muli v5 c1_i32_138
  let v112 : BitVec 32 := Scalar.addi v110 v111
  v112.toNat
def k0_dev6 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v130 : BitVec 32 := Scalar.muli v2 c2_i32_161
  let v131 : BitVec 32 := Scalar.addi c0_i32_162 v130
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v132 : BitVec 32 := Scalar.muli v7 c1_i32_163
  let v133 : BitVec 32 := Scalar.addi v131 v132
  v133.toNat
def k0_dev7 (d0 : Dev nD) : Nat :=
  let c0_i32_187 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_186 : BitVec 32 := 2#32
  let v151 : BitVec 32 := Scalar.muli v6 c2_i32_186
  let v152 : BitVec 32 := Scalar.addi c0_i32_187 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v153 : BitVec 32 := Scalar.muli v5 c1_i32_188
  let v154 : BitVec 32 := Scalar.addi v152 v153
  v154.toNat
def k0_dev8 (d0 : Dev nD) : Nat :=
  let c0_i32_212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_211 : BitVec 32 := 2#32
  let v172 : BitVec 32 := Scalar.muli v2 c2_i32_211
  let v173 : BitVec 32 := Scalar.addi c0_i32_212 v172
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_213 : BitVec 32 := 1#32
  let v174 : BitVec 32 := Scalar.muli v7 c1_i32_213
  let v175 : BitVec 32 := Scalar.addi v173 v174
  v175.toNat
def k0_dev9 (d0 : Dev nD) : Nat :=
  let c0_i32_237 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_236 : BitVec 32 := 2#32
  let v193 : BitVec 32 := Scalar.muli v6 c2_i32_236
  let v194 : BitVec 32 := Scalar.addi c0_i32_237 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_238 : BitVec 32 := 1#32
  let v195 : BitVec 32 := Scalar.muli v5 c1_i32_238
  let v196 : BitVec 32 := Scalar.addi v194 v195
  v196.toNat
def k0_dev10 (d0 : Dev nD) : Nat :=
  let c0_i32_262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_261 : BitVec 32 := 2#32
  let v214 : BitVec 32 := Scalar.muli v2 c2_i32_261
  let v215 : BitVec 32 := Scalar.addi c0_i32_262 v214
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_263 : BitVec 32 := 1#32
  let v216 : BitVec 32 := Scalar.muli v7 c1_i32_263
  let v217 : BitVec 32 := Scalar.addi v215 v216
  v217.toNat
def k0_dev11 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v241 : BitVec 32 := Scalar.muli v2 c2_i32_296
  let v242 : BitVec 32 := Scalar.addi c0_i32_297 v241
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_298 : BitVec 32 := 1#32
  let v243 : BitVec 32 := Scalar.muli v7 c1_i32_298
  let v244 : BitVec 32 := Scalar.addi v242 v243
  v244.toNat
def k0_dev12 (d0 : Dev nD) : Nat :=
  let c0_i32_332 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_331 : BitVec 32 := 2#32
  let v268 : BitVec 32 := Scalar.muli v6 c2_i32_331
  let v269 : BitVec 32 := Scalar.addi c0_i32_332 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_333 : BitVec 32 := 1#32
  let v270 : BitVec 32 := Scalar.muli v5 c1_i32_333
  let v271 : BitVec 32 := Scalar.addi v269 v270
  v271.toNat
def k0_dev13 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v295 : BitVec 32 := Scalar.muli v2 c2_i32_366
  let v296 : BitVec 32 := Scalar.addi c0_i32_367 v295
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_368 : BitVec 32 := 1#32
  let v297 : BitVec 32 := Scalar.muli v7 c1_i32_368
  let v298 : BitVec 32 := Scalar.addi v296 v297
  v298.toNat
def k0_dev14 (d0 : Dev nD) : Nat :=
  let c0_i32_402 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_401 : BitVec 32 := 2#32
  let v322 : BitVec 32 := Scalar.muli v6 c2_i32_401
  let v323 : BitVec 32 := Scalar.addi c0_i32_402 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_403 : BitVec 32 := 1#32
  let v324 : BitVec 32 := Scalar.muli v5 c1_i32_403
  let v325 : BitVec 32 := Scalar.addi v323 v324
  v325.toNat
def k0_dev15 (d0 : Dev nD) : Nat :=
  let c0_i32_437 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_436 : BitVec 32 := 2#32
  let v349 : BitVec 32 := Scalar.muli v2 c2_i32_436
  let v350 : BitVec 32 := Scalar.addi c0_i32_437 v349
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_438 : BitVec 32 := 1#32
  let v351 : BitVec 32 := Scalar.muli v7 c1_i32_438
  let v352 : BitVec 32 := Scalar.addi v350 v351
  v352.toNat
def k0_dev16 (d0 : Dev nD) : Nat :=
  let c0_i32_472 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_471 : BitVec 32 := 2#32
  let v376 : BitVec 32 := Scalar.muli v6 c2_i32_471
  let v377 : BitVec 32 := Scalar.addi c0_i32_472 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_473 : BitVec 32 := 1#32
  let v378 : BitVec 32 := Scalar.muli v5 c1_i32_473
  let v379 : BitVec 32 := Scalar.addi v377 v378
  v379.toNat
def k0_dev17 (d0 : Dev nD) : Nat :=
  let c0_i32_507 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_506 : BitVec 32 := 2#32
  let v403 : BitVec 32 := Scalar.muli v2 c2_i32_506
  let v404 : BitVec 32 := Scalar.addi c0_i32_507 v403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_508 : BitVec 32 := 1#32
  let v405 : BitVec 32 := Scalar.muli v7 c1_i32_508
  let v406 : BitVec 32 := Scalar.addi v404 v405
  v406.toNat
def k0_dev18 (d0 : Dev nD) : Nat :=
  let c0_i32_542 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_541 : BitVec 32 := 2#32
  let v430 : BitVec 32 := Scalar.muli v6 c2_i32_541
  let v431 : BitVec 32 := Scalar.addi c0_i32_542 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_543 : BitVec 32 := 1#32
  let v432 : BitVec 32 := Scalar.muli v5 c1_i32_543
  let v433 : BitVec 32 := Scalar.addi v431 v432
  v433.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2x256x256 : Shape := ⟨4, ![2, 2, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x2x256x256, .f32⟩
  | .hbm, ⟨1, _⟩ => ⟨S2x2x256x256, .bf16⟩
  | .hbm, ⟨2, _⟩ => ⟨S2x2x256x256, .f32⟩
  | .hbm, ⟨3, _⟩ => ⟨S_, .f32⟩
  | .hbm, ⟨4, _⟩ => ⟨S256x256, .f32⟩
  | .hbm, ⟨5, _⟩ => ⟨S256x256, .bf16⟩
  | _, _ => ⟨S2x2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Geometry.lean ====
/-
# Geometry: the mesh's neighbours, the eight chunks of a block, and what the buffers hold

A device's block has 256 rows, cut into eight chunks of 32 rows. Chunks 0 to 3 are the first half of the rows and are
summed along the mesh's x axis first, then along y; chunks 4 to 7 are the second half, summed along y first. The
contents are stated once for whole buffers, element by element, so a chunk of a buffer holds a restriction of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.KernelIdeal.Hier

open Cert.KernelIdeal Cert.KernelIdeal.Gen

open Idealize.ShloMosaic
open Idealize.ShloMosaic.TcCoe
open Idealize.ShloMosaic.ValueIdx (ix2 ix3 ix4 reshapeEquiv_ix2_1ab reshapeEquiv_ix2_11ab eq_ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The neighbour along the mesh's x axis. -/
def xn (c : Dev nD) : Dev nD := ⟨((c.val % 2) + 2) - 2 * (c.val / 2), by have h : c.val < 4 := c.isLt; show _ < 4; omega⟩
set_option backward.proofsInPublic true in
/-- The neighbour along the mesh's y axis. -/
def yn (c : Dev nD) : Dev nD := ⟨(2 * (c.val / 2) + 1) - (c.val % 2), by have h : c.val < 4 := c.isLt; show _ < 4; omega⟩

theorem xn_xn (c : Dev nD) : xn (xn c) = c := by revert c; decide
theorem yn_yn (c : Dev nD) : yn (yn c) = c := by revert c; decide
theorem xn_ne_yn (c : Dev nD) : xn c ≠ yn c := by revert c; decide
theorem xn_yn (c : Dev nD) : xn (yn c) = yn (xn c) := by revert c; decide

/-- The two stages of the exchange. -/
abbrev St : Type := Fin 2
/-- The eight chunks. -/
abbrev Ch : Type := Fin 8

/-- Whether chunk `j` crosses the x axis at stage `s`: the first four chunks at stage 0, the last four at stage 1. -/
abbrev AlongX (s : St) (j : Ch) : Prop := s.val = j.val / 4

/-- The device that device `c` exchanges chunk `j` with at stage `s`. -/
def pr (s : St) (j : Ch) (c : Dev nD) : Dev nD := if AlongX s j then xn c else yn c

theorem pr_x {s : St} {j : Ch} (h : AlongX s j) (c : Dev nD) : pr s j c = xn c := if_pos h
theorem pr_y {s : St} {j : Ch} (h : ¬ AlongX s j) (c : Dev nD) : pr s j c = yn c := if_neg h
theorem pr_pr (s : St) (j : Ch) (c : Dev nD) : pr s j (pr s j c) = c := by
  unfold pr; split
  · exact xn_xn c
  · exact yn_yn c

/-- The exchange of chunk `j` at stage `s`, a permutation of the devices. -/
def prE (s : St) (j : Ch) : Dev nD ≃ Dev nD := ⟨pr s j, pr s j, pr_pr s j, pr_pr s j⟩
/-- The exchange along the x axis. -/
def xE : Dev nD ≃ Dev nD := ⟨xn, xn, xn_xn, xn_xn⟩
/-- The exchange along the y axis. -/
def yE : Dev nD ≃ Dev nD := ⟨yn, yn, yn_yn, yn_yn⟩

/-! ## The chunks as memrefs -/

abbrev xM : Memref sig .tc .hbm S1x1x256x256 .f32 := Memref.whole main_arg0
abbrev oM : Memref sig .tc .vmem S256x256 .bf16 := Memref.whole cc0_stg0_0
abbrev fM : Memref sig .tc .vmem S256x256 .f32 := Memref.whole cc0_scratch0
abbrev bM : Memref sig .tc .vmem S256x256 .bf16 := Memref.whole cc0_scratch1
abbrev aM : Memref sig .tc .vmem S256x256 .bf16 := Memref.whole cc0_scratch2
abbrev gM : Memref sig .tc .vmem S2x256x256 .bf16 := Memref.whole cc0_scratch3

theorem inbR (j : Ch) : ∀ a, (![32 * j.val, 0] : Fin 2 → Nat) a + S32x256.size a ≤ S256x256.size a := by
  revert j; decide
theorem inbX (j : Ch) : ∀ a, (![0, 0, 32 * j.val, 0] : Fin 4 → Nat) a + S1x1x32x256.size a ≤ S1x1x256x256.size a := by
  revert j; decide
theorem inbG (s : St) (j : Ch) : ∀ a, (![s.val, 32 * j.val, 0] : Fin 3 → Nat) a + S1x32x256.size a ≤ S2x256x256.size a := by
  revert s j; decide

/-- Rows `32 j` to `32 j + 31` of a 256 by 256 buffer. -/
abbrev rowR (j : Ch) : Rect S256x256 := Rect.unit (s := S256x256) ![32 * j.val, 0] S32x256.size (inbR j)
/-- The same rows of the input block. -/
abbrev rowX (j : Ch) : Rect S1x1x256x256 := Rect.unit (s := S1x1x256x256) ![0, 0, 32 * j.val, 0] S1x1x32x256.size (inbX j)
/-- The same rows of stage `s`'s half of the landing buffer. -/
abbrev rowG (s : St) (j : Ch) : Rect S2x256x256 := Rect.unit (s := S2x256x256) ![s.val, 32 * j.val, 0] S1x32x256.size (inbG s j)

abbrev xC (j : Ch) : Memref sig .tc .hbm S32x256 .f32 :=
  (xM.slice (rowX j) (fun _ => rfl)).squeeze S32x256 squeezes_S1x1x32x256_S32x256
abbrev fC (j : Ch) : Memref sig .tc .vmem S32x256 .f32 := fM.slice (rowR j) (fun _ => rfl)
abbrev bC (j : Ch) : Memref sig .tc .vmem S32x256 .bf16 := bM.slice (rowR j) (fun _ => rfl)
abbrev aC (j : Ch) : Memref sig .tc .vmem S32x256 .bf16 := aM.slice (rowR j) (fun _ => rfl)
abbrev oC (j : Ch) : Memref sig .tc .vmem S32x256 .bf16 := oM.slice (rowR j) (fun _ => rfl)
abbrev gC (s : St) (j : Ch) : Memref sig .tc .vmem S32x256 .bf16 :=
  (gM.slice (rowG s j) (fun _ => rfl)).squeeze S32x256 squeezes_S1x32x256_S32x256

/-! ## Index maps -/

/-- Chunk of a row. -/
def ch (i : S256x256.Idx) : Ch := ⟨(i 0).val / 32, by have h : (i 0).val < 256 := (i 0).isLt; omega⟩
/-- An index of a 256 by 256 buffer as one of the input block. -/
def up4 (i : S256x256.Idx) : S1x1x256x256.Idx := ix4 (0 : Fin 1) (0 : Fin 1) (i 0) (i 1)
/-- An index of a 256 by 256 buffer as one of stage `s`'s half of the landing buffer. -/
def up3 (s : St) (i : S256x256.Idx) : S2x256x256.Idx := ix3 s (i 0) (i 1)

theorem ch_row (j : Ch) (y : S32x256.Idx) : ch ((rowR j).emb y) = j := by
  have hy : (y 0).val < 32 := (y 0).isLt
  refine Fin.ext ?_
  have e : ((rowR j).emb y 0).val = 32 * j.val + 1 * (y 0).val := Rect.emb_apply (rowR j) y 0
  show ((rowR j).emb y 0).val / 32 = j.val
  omega

theorem emb_f (j : Ch) (y : S32x256.Idx) : (fC j).view.emb y = (rowR j).emb y := rfl
theorem emb_b (j : Ch) (y : S32x256.Idx) : (bC j).view.emb y = (rowR j).emb y := rfl
theorem emb_a (j : Ch) (y : S32x256.Idx) : (aC j).view.emb y = (rowR j).emb y := rfl
theorem emb_o (j : Ch) (y : S32x256.Idx) : (oC j).view.emb y = (rowR j).emb y := rfl

theorem rowX_emb (j : Ch) (y : S32x256.Idx) (h : S32x256.numel = S1x1x32x256.numel) :
    (rowX j).emb (Shape.reshapeEquiv h y) = up4 ((rowR j).emb y) := by
  have e : Shape.reshapeEquiv h y = ix4 (0 : Fin 1) (0 : Fin 1) (y 0) (y 1) := by
    conv_lhs => rw [eq_ix2 y]
    exact reshapeEquiv_ix2_11ab h (y 0) (y 1)
  rw [e]
  funext a
  match a with
  | ⟨0, _⟩ => exact Fin.ext rfl
  | ⟨1, _⟩ => exact Fin.ext rfl
  | ⟨2, _⟩ => exact Fin.ext rfl
  | ⟨3, _⟩ => exact Fin.ext rfl

theorem rowG_emb (s : St) (j : Ch) (y : S32x256.Idx) (h : S32x256.numel = S1x32x256.numel) :
    (rowG s j).emb (Shape.reshapeEquiv h y) = up3 s ((rowR j).emb y) := by
  have e : Shape.reshapeEquiv h y = ix3 (0 : Fin 1) (y 0) (y 1) := by
    conv_lhs => rw [eq_ix2 y]
    exact reshapeEquiv_ix2_1ab h (y 0) (y 1)
  rw [e]
  funext a
  match a with
  | ⟨0, _⟩ => exact Fin.ext rfl
  | ⟨1, _⟩ => exact Fin.ext rfl
  | ⟨2, _⟩ => exact Fin.ext rfl

theorem emb_x (j : Ch) (y : S32x256.Idx) : (xC j).view.emb y = up4 ((rowR j).emb y) := rowX_emb j y _
theorem emb_g (s : St) (j : Ch) (y : S32x256.Idx) : (gC s j).view.emb y = up3 s ((rowR j).emb y) := rowG_emb s j y _

/-! ## Contents -/

variable (m : (ℓ : Loc nD τ sig) → Buf (Elt F) ℓ)

/-- The f32 copy of device `c`'s block. -/
def fV (c : Dev nD) : FVec F S256x256 .f32 := fun i => m ((c : Thread nD τ).loc main_arg0) (up4 i)
/-- Device `c`'s block rounded to bf16. -/
def bV (c : Dev nD) : FVec F S256x256 .bf16 := truncf .bf16 (fV m c) bitsLt_bf16_f32
/-- The sum over device `c`'s stage-0 pair. -/
def aV (c : Dev nD) : FVec F S256x256 .bf16 := fun i => addf (bV m c) (bV m (pr 0 (ch i) c)) i
/-- The sum over the four devices, as device `c` forms it. -/
def oV (c : Dev nD) : FVec F S256x256 .bf16 := fun i => addf (aV m c) (aV m (pr 1 (ch i) c)) i
/-- What device `c` sends at stage `s`. -/
def sV (s : St) (c : Dev nD) : FVec F S256x256 .bf16 := if s = 0 then bV m c else aV m c
/-- What lands in device `c`'s landing buffer: the partner's block at stage 0, the partner's sum at stage 1. -/
def gV (c : Dev nD) : FVec F S2x256x256 .bf16 := fun k =>
  sV m (k 0) (pr (k 0) (ch (ix2 (k 1) (k 2))) c) (ix2 (k 1) (k 2))

theorem gV_up3 (c : Dev nD) (s : St) (i : S256x256.Idx) : gV m c (up3 s i) = sV m s (pr s (ch i) c) i := by
  have e : (ix2 (i 0) (i 1) : S256x256.Idx) = i := (eq_ix2 i).symm
  show sV m s (pr s (ch (ix2 (i 0) (i 1))) c) (ix2 (i 0) (i 1)) = _
  rw [e]

end Cert.KernelIdeal.Hier
end
-- ==== Proof.KernelIdeal.Cells.lean ====
/-
# Cells: the kernel's semaphores, what each one's wait hands over, and who owes what

Each device has one barrier semaphore and forty DMA semaphores of its own: one for each chunk's copy in, and one send
and one receive semaphore for each chunk at each stage. Every semaphore runs for one round. The barrier's round has two
payers, the two neighbours, and a payer hands over the rows of its own landing buffer that the waiting device writes
into. A copy's round has one payer, the copy.
-/
module

public import proofs.«01_k».proof.Proof.KernelIdeal.Geometry

@[expose] public section

noncomputable section

namespace Cert.KernelIdeal.Hier

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the kernel's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kernel's own semaphores: copies in, sends, receives. -/
abbrev OK : Type := Ch ⊕ ((St × Ch) ⊕ (St × Ch))
/-- With the barrier. -/
abbrev CK : Type := Unit ⊕ OK

abbrev kBar : CK := .inl ()
abbrev kIn (j : Ch) : CK := .inr (.inl j)
abbrev kSnd (s : St) (j : Ch) : CK := .inr (.inr (.inl (s, j)))
abbrev kRcv (s : St) (j : Ch) : CK := .inr (.inr (.inr (s, j)))

/-- The barrier semaphore. -/
abbrev barS : Sem sig := (SemArray.scalar (sig.barrier 0 rfl) : Sems sig S_).sem

set_option backward.proofsInPublic true in
def inQ (j : Ch) : DmaSem sig := ⟨1 + j.val, by have := j.isLt; show _ < 41; omega⟩
set_option backward.proofsInPublic true in
def sndQ (s : St) (j : Ch) : DmaSem sig := ⟨9 + 8 * s.val + j.val, by have := j.isLt; have := s.isLt; show _ < 41; omega⟩
set_option backward.proofsInPublic true in
def rcvQ (s : St) (j : Ch) : DmaSem sig := ⟨25 + 8 * s.val + j.val, by have := j.isLt; have := s.isLt; show _ < 41; omega⟩

def osem : OK → SemLoc sig
  | .inl j => .dma (inQ j)
  | .inr (.inl (s, j)) => .dma (sndQ s j)
  | .inr (.inr (s, j)) => .dma (rcvQ s j)
def csem : CK → SemLoc sig
  | .inl _ => .reg barS
  | .inr k => osem k

set_option backward.proofsInPublic true in
/-- Which of them a semaphore is, if any. -/
def kind : SemLoc sig → Option CK
  | .reg s => if s = barS then some kBar else none
  | .dma q =>
    if q.val = 0 then none
    else if q.val < 9 then some (kIn ⟨(q.val - 1) % 8, Nat.mod_lt _ (by decide)⟩)
    else if q.val < 25 then some (kSnd ⟨(q.val - 9) / 8 % 2, Nat.mod_lt _ (by decide)⟩ ⟨(q.val - 9) % 8, Nat.mod_lt _ (by decide)⟩)
    else some (kRcv ⟨(q.val - 25) / 8 % 2, Nat.mod_lt _ (by decide)⟩ ⟨(q.val - 25) % 8, Nat.mod_lt _ (by decide)⟩)

theorem kind_in (j : Ch) : kind (.dma (inQ j)) = some (kIn j) := by revert j; decide
theorem kind_snd (s : St) (j : Ch) : kind (.dma (sndQ s j)) = some (kSnd s j) := by revert s j; decide
theorem kind_rcv (s : St) (j : Ch) : kind (.dma (rcvQ s j)) = some (kRcv s j) := by revert s j; decide
theorem kind_bar : kind (.reg barS) = some kBar := by decide
theorem kind_csem : (k : CK) → kind (csem k) = some k
  | .inl () => kind_bar
  | .inr (.inl j) => kind_in j
  | .inr (.inr (.inl (s, j))) => kind_snd s j
  | .inr (.inr (.inr (s, j))) => kind_rcv s j

abbrev cell (c : Dev nD) (k : CK) : GSem nD τ sig := ((c : Thread nD τ), csem k)
abbrev barCell (c : Dev nD) : GSem nD τ sig := ((c : Thread nD τ), .reg barS)
abbrev inCell (c : Dev nD) (j : Ch) : GSem nD τ sig := ((c : Thread nD τ), .dma (inQ j))
abbrev sndCell (c : Dev nD) (s : St) (j : Ch) : GSem nD τ sig := ((c : Thread nD τ), .dma (sndQ s j))
abbrev rcvCell (c : Dev nD) (s : St) (j : Ch) : GSem nD τ sig := ((c : Thread nD τ), .dma (rcvQ s j))

/-- The credit of a copy of one f32 chunk, -/
abbrev NI : ℕ := (fC 0).view.dmaCredit
/-- and of one bf16 chunk. -/
abbrev NB : ℕ := (bC 0).view.dmaCredit

theorem NI_pos : 0 < NI := View.dmaCredit_pos _ (by decide)
theorem NB_pos : 0 < NB := View.dmaCredit_pos _ (by decide)
theorem credit_f (j : Ch) : (fC j).view.dmaCredit = NI := rfl
theorem credit_b (j : Ch) : (bC j).view.dmaCredit = NB := rfl
theorem credit_a (j : Ch) : (aC j).view.dmaCredit = NB := rfl
theorem credit_g (s : St) (j : Ch) : (gC s j).view.dmaCredit = NB := rfl

/-! ## Rows of the buffers -/

section Rows
variable (m : (ℓ : Loc nD τ sig) → Buf (Elt F) ℓ)

def xP (q : PosShare TreeShare) (c : Dev nD) (j : Ch) : sProp 𝕄 :=
  (xC j).view.loc (c : Thread nD τ) ↦[(xC j).view.set]{q} m ((c : Thread nD τ).loc main_arg0)
def fP (q : PosShare TreeShare) (c : Dev nD) (j : Ch) (f : Buf (Elt F) ((fC j).view.loc (c : Thread nD τ))) : sProp 𝕄 :=
  (fC j).view.loc (c : Thread nD τ) ↦[(fC j).view.set]{q} f
def bP (q : PosShare TreeShare) (c : Dev nD) (j : Ch) (f : Buf (Elt F) ((bC j).view.loc (c : Thread nD τ))) : sProp 𝕄 :=
  (bC j).view.loc (c : Thread nD τ) ↦[(bC j).view.set]{q} f
def aP (q : PosShare TreeShare) (c : Dev nD) (j : Ch) (f : Buf (Elt F) ((aC j).view.loc (c : Thread nD τ))) : sProp 𝕄 :=
  (aC j).view.loc (c : Thread nD τ) ↦[(aC j).view.set]{q} f
def oP (q : PosShare TreeShare) (c : Dev nD) (j : Ch) (f : Buf (Elt F) ((oC j).view.loc (c : Thread nD τ))) : sProp 𝕄 :=
  (oC j).view.loc (c : Thread nD τ) ↦[(oC j).view.set]{q} f
def gP (q : PosShare TreeShare) (c : Dev nD) (s : St) (j : Ch) (f : Buf (Elt F) ((gC s j).view.loc (c : Thread nD τ))) : sProp 𝕄 :=
  (gC s j).view.loc (c : Thread nD τ) ↦[(gC s j).view.set]{q} f

omit [FloatOps F] in
instance xP_storable (q : PosShare TreeShare) (c : Dev nD) (j : Ch) : BI.Storable (upEmb : UEmb _ 𝕄) (xP (F := F) m q c j) := by unfold xP; infer_instance
omit [FloatOps F] in
instance fP_storable (q : PosShare TreeShare) (c : Dev nD) (j : Ch) (f) : BI.Storable (upEmb : UEmb _ 𝕄) (fP (F := F) q c j f) := by unfold fP; infer_instance
omit [FloatOps F] in
instance bP_storable (q : PosShare TreeShare) (c : Dev nD) (j : Ch) (f) : BI.Storable (upEmb : UEmb _ 𝕄) (bP (F := F) q c j f) := by unfold bP; infer_instance
omit [FloatOps F] in
instance aP_storable (q : PosShare TreeShare) (c : Dev nD) (j : Ch) (f) : BI.Storable (upEmb : UEmb _ 𝕄) (aP (F := F) q c j f) := by unfold aP; infer_instance
omit [FloatOps F] in
instance gP_storable (q : PosShare TreeShare) (c : Dev nD) (s : St) (j : Ch) (f) : BI.Storable (upEmb : UEmb _ 𝕄) (gP (F := F) q c s j f) := by unfold gP; infer_instance

/-! ## What each wait hands over -/

/-- The stage at which chunk `j` crosses the x axis, -/
def sx (j : Ch) : St := ⟨j.val / 4, by have := j.isLt; omega⟩
/-- and the y axis. -/
def sy (j : Ch) : St := ⟨1 - j.val / 4, by omega⟩

theorem pr_sx (j : Ch) (c : Dev nD) : pr (sx j) j c = xn c := pr_x rfl c
theorem pr_sy (j : Ch) (c : Dev nD) : pr (sy j) j c = yn c := pr_y (by revert j; decide) c

/-- From the neighbour along x: the rows of its landing buffer that this device writes, whatever they hold. -/
def barPayX (c : Dev nD) : sProp 𝕄 := bigSep Finset.univ fun j : Ch => iprop(∃ f, gP fullShare (xn c) (sx j) j f)
/-- From the neighbour along y. -/
def barPayY (c : Dev nD) : sProp 𝕄 := bigSep Finset.univ fun j : Ch => iprop(∃ f, gP fullShare (yn c) (sy j) j f)
/-- A copy in: the rows of the input block back, and the rows of its f32 copy. -/
def inPay (c : Dev nD) (j : Ch) : sProp 𝕄 := iprop(fP fullShare c j (fV m c) ∗ xP m fullShare c j)
/-- A send: half of the rows sent back. -/
def sndPay (c : Dev nD) (s : St) (j : Ch) : sProp 𝕄 := if s = 0 then bP fullShare.left c j (bV m c) else aP fullShare.left c j (aV m c)
/-- A receive: the rows landed. -/
def rcvPay (c : Dev nD) (s : St) (j : Ch) : sProp 𝕄 := gP fullShare c s j (gV m c)

def payOf (c : Dev nD) (d : Bool) : CK → sProp 𝕄
  | .inl _ => if d then barPayX c else barPayY c
  | .inr (.inl j) => inPay m c j
  | .inr (.inr (.inl (s, j))) => sndPay m c s j
  | .inr (.inr (.inr (s, j))) => rcvPay m c s j

def amtOf : CK → ℕ
  | .inl _ => 1
  | .inr (.inl _) => NI
  | .inr (.inr _) => NB

def dutOf : CK → Finset Bool
  | .inl _ => Finset.univ
  | .inr _ => {false}

theorem amtOf_pos (k : CK) : 0 < amtOf k := match k with
  | .inl _ => Nat.one_pos
  | .inr (.inl _) => NI_pos
  | .inr (.inr _) => NB_pos

instance payOf_storable (c : Dev nD) (d : Bool) (k : CK) : BI.Storable (upEmb : UEmb _ 𝕄) (payOf m c d k) := by
  rcases k with _ | j | ⟨s, j⟩ | ⟨s, j⟩
  · show BI.Storable upEmb (if d then barPayX c else barPayY c)
    unfold barPayX barPayY; split <;> infer_instance
  · show BI.Storable upEmb (inPay m c j); unfold inPay; infer_instance
  · show BI.Storable upEmb (sndPay m c s j); unfold sndPay; split <;> infer_instance
  · show BI.Storable upEmb (rcvPay m c s j); unfold rcvPay; infer_instance

/-- The schedule: one round for each of the kernel's semaphores. -/
def Rd : Rounds.Schedule (GSem nD τ sig) Bool 𝕄 where
  duties g r := if g.1.2 = .tc ∧ r = 0 then (match kind g.2 with | some k => dutOf k | none => ∅) else ∅
  unitless _ := False
  amount g _ _ := match kind g.2 with | some k => amtOf k | none => 1
  payload g _ d := match kind g.2 with | some k => payOf m g.1.1 d k | none => iprop(emp)
  amount_pos g _ _ _ := by
    cases kind g.2 with
    | some k => exact amtOf_pos k
    | none => exact Nat.one_pos

instance Rd_payload_storable (g : GSem nD τ sig) (r : ℕ) (d : Bool) :
    BI.Storable (upEmb : UEmb _ 𝕄) ((Rd (F := F) m).payload g r d) := by
  show BI.Storable upEmb (match kind g.2 with | some k => payOf m g.1.1 d k | none => iprop(emp))
  cases kind g.2 with
  | some k => exact payOf_storable m g.1.1 d k
  | none => infer_instance

theorem Rd_duties (c : Dev nD) (k : CK) : (Rd (F := F) m).duties (cell c k) 0 = dutOf k := by
  dsimp only [Rd]
  rw [if_pos ⟨rfl, rfl⟩, kind_csem]
theorem Rd_later (g : GSem nD τ sig) : ∀ r, 1 ≤ r → (Rd (F := F) m).duties g r = ∅ :=
  fun r hr => by dsimp only [Rd]; rw [if_neg fun h => by omega]
theorem Rd_amount (c : Dev nD) (k : CK) (d : Bool) : (Rd (F := F) m).amount (cell c k) 0 d = amtOf k := by
  dsimp only [Rd]; rw [kind_csem]
theorem Rd_payload (c : Dev nD) (k : CK) (d : Bool) : (Rd (F := F) m).payload (cell c k) 0 d = payOf m c d k := by
  dsimp only [Rd]; rw [kind_csem]

theorem Rd_expect_bar (c : Dev nD) : (Rd (F := F) m).expect (barCell c) 0 = 2 := by
  show (Rd (F := F) m).expect (cell c kBar) 0 = 2
  unfold Schedule.expect Schedule.amountOf
  rw [Rd_duties m c kBar, Finset.sum_congr rfl fun d _ => Rd_amount m c kBar d]; rfl
theorem Rd_expect (c : Dev nD) (k : OK) : (Rd (F := F) m).expect (cell c (.inr k)) 0 = amtOf (.inr k) := by
  unfold Schedule.expect Schedule.amountOf
  rw [Rd_duties m c (.inr k), show dutOf (.inr k) = {false} from rfl, Finset.sum_singleton, Rd_amount]

theorem Rd_rest_bar (c : Dev nD) :
    bigSep ((Rd (F := F) m).duties (barCell c) 0 \ ∅) (fun d => (Rd (F := F) m).payload (barCell c) 0 d) = iprop(barPayX c ∗ barPayY c) := by
  show bigSep ((Rd (F := F) m).duties (cell c kBar) 0 \ ∅) (fun d => (Rd (F := F) m).payload (cell c kBar) 0 d) = iprop(barPayX c ∗ barPayY c)
  rw [Finset.sdiff_empty, Rd_duties m c kBar, show dutOf kBar = Finset.univ from rfl,
    bigSep_univ_eq_bigSepL [true, false] (by decide) (by decide), bigSepL_cons_cons, bigSepL_singleton,
    Rd_payload m c kBar, Rd_payload m c kBar]
  rfl
theorem Rd_rest (c : Dev nD) (k : OK) :
    bigSep ((Rd (F := F) m).duties (cell c (.inr k)) 0 \ ∅) (fun d => (Rd (F := F) m).payload (cell c (.inr k)) 0 d) = payOf m c false (.inr k) := by
  rw [Finset.sdiff_empty, Rd_duties m c (.inr k), show dutOf (.inr k) = {false} from rfl, bigSep_singleton, Rd_payload]

end Rows

/-! ## What each device owes, and the levels -/

/-- What is still owed for the sends `l` to come: each one's credit at its partner's receive semaphore. -/
def owed (c : Dev nD) : List (St × Ch) → CellTallies nD τ sig Unit
  | [] => 0
  | p :: l => owed c l + tallyAt (rcvCell (pr p.1 p.2 c) p.1 p.2) () NB

/-- The sends in program order. -/
abbrev sends : List (St × Ch) :=
  [(0, 0), (0, 4), (0, 1), (0, 5), (0, 2), (0, 6), (0, 3), (0, 7), (1, 0), (1, 4), (1, 1), (1, 5), (1, 2), (1, 6), (1, 3), (1, 7)]

theorem sends_nodup : sends.Nodup := by decide
theorem mem_sends (p : St × Ch) : p ∈ sends := by revert p; decide

/-- After the first barrier signal. -/
def O₁ (c : Dev nD) : CellTallies nD τ sig Unit := owed c sends + tallyAt (barCell (yn c)) () 1
/-- At launch. -/
def O₀ (c : Dev nD) : CellTallies nD τ sig Unit := O₁ c + tallyAt (barCell (xn c)) () 1

def L (g : GSem nD τ sig) : Finset Unit := if g.1.2 = .tc then {()} else ∅
def lvOf : CK → ℕ
  | .inl _ => 1
  | .inr (.inr (.inr (s, _))) => 2 + s.val
  | .inr _ => 0
/-- The level of a semaphore: receives above the barrier, stage 1 above stage 0, everything else at the bottom. -/
def lv (g : GSem nD τ sig) (_ : Unit) : ℕ := match kind g.2 with | some k => lvOf k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (s : St) (j : Ch) (u : Unit) : lv (rcvCell c s j) u = 2 + s.val := by
  unfold lv; rw [kind_rcv]; rfl
theorem lv_bar (c : Dev nD) (u : Unit) : lv (barCell c) u = 1 := by unfold lv; rw [kind_bar]; rfl
theorem lv_in (c : Dev nD) (j : Ch) (u : Unit) : lv (inCell c j) u = 0 := by unfold lv; rw [kind_in]; rfl

theorem owed_pos {c : Dev nD} {l : List (St × Ch)} {g : GSem nD τ sig} {u : Unit} (h : 0 < owed c l g u) :
    ∃ p ∈ l, g = rcvCell (pr p.1 p.2 c) p.1 p.2 := by
  induction l with
  | nil => exact absurd h (Nat.lt_irrefl 0)
  | cons p l ih =>
    unfold owed at h
    rw [Pi.add_apply, Finsupp.add_apply, tallyAt_apply] at h
    by_cases hg : g = rcvCell (pr p.1 p.2 c) p.1 p.2 ∧ u = ()
    · exact ⟨p, List.mem_cons_self, hg.1⟩
    · rw [if_neg hg, Nat.add_zero] at h
      obtain ⟨p', hp', e⟩ := ih h
      exact ⟨p', List.mem_cons_of_mem _ hp', e⟩

omit [FloatOps F] in
/-- A device may wait on a semaphore of level `n` while every send it still owes is at a stage above. -/
theorem mayWait_owed (c : Dev nD) (sm : SemLoc sig) (l : List (St × Ch)) (n : ℕ)
    (hn : lv ((c : Thread nD τ), sm) () ≤ n) (hl : ∀ p ∈ l, n < 2 + p.1.val) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨p, hp, rfl⟩ := owed_pos hg; rw [L_tc]; exact Finset.mem_singleton_self _)
    (fun p hp => by rw [Finset.mem_singleton.mp hp]; exact hn)
    (fun g u hg => by obtain ⟨p, hp, rfl⟩ := owed_pos hg; rw [lv_rcv]; exact hl p hp)

theorem O₀_pos {c : Dev nD} {g : GSem nD τ sig} {u : Unit} (h : 0 < O₀ c g u) :
    (∃ p ∈ sends, g = rcvCell (pr p.1 p.2 c) p.1 p.2) ∨ g = barCell (yn c) ∨ g = barCell (xn c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (owed_pos h)

omit [FloatOps F] in
/-- The pipeline's own semaphore may be waited on owing everything. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, hp, rfl⟩ | rfl | rfl <;> exact Finset.mem_singleton_self _)
      (fun p hp => by rw [Finset.mem_singleton.mp hp]; unfold lv; rw [hq])
      (fun g u hg => by
        rcases O₀_pos hg with ⟨p, hp, rfl⟩ | rfl | rfl
        · rw [lv_rcv]; omega
        · rw [lv_bar]; decide
        · rw [lv_bar]; decide)
  · rw [MayWait_zero]; iintro -; iempintro

end Cert.KernelIdeal.Hier
end
-- ==== Proof.KernelIdeal.Rows.lean ====
/-
# Rows: a buffer is its eight chunks, and what a store or a copy leaves in one chunk

A buffer held whole is the same as its chunks held one by one. A chunk written by a store or by a copy of the right
values holds the whole buffer's stated contents there.
-/
module

public import proofs.«01_k».proof.Proof.KernelIdeal.Cells

@[expose] public section

noncomputable section

namespace Cert.KernelIdeal.Hier

open Cert.KernelIdeal Cert.KernelIdeal.Gen

open Idealize.ShloMosaic
open Idealize.ShloMosaic.TcCoe
open Idealize.ShloMosaic.ValueIdx (ix2 ix3 ix4)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The chunks partition a buffer -/

/-- A buffer cut by a function of the index: held whole, it is its parts held one by one. -/
theorem split_by {T : Type} [Fintype T] [DecidableEq T] {ℓ : Loc nD τ sig} {q : PosShare TreeShare} {f : Buf (Elt F) ℓ}
    (part : Idx ℓ → T) (I : T → Finset (Idx ℓ)) (hI : ∀ t i, i ∈ I t ↔ part i = t) :
    (ℓ ↦{q} f : sProp 𝕄) = bigSep Finset.univ fun t => ℓ ↦[I t]{q} f := by
  have hu : (Finset.univ : Finset (Idx ℓ)) = Finset.univ.biUnion I := by
    ext i; simp only [Finset.mem_univ, Finset.mem_biUnion, true_and, true_iff]
    exact ⟨part i, (hI _ _).mpr rfl⟩
  rw [← pointsTo_biUnion Finset.univ I fun t _ t' _ hne => by
    rw [Finset.disjoint_left]; intro i h h'
    exact hne (((hI t i).mp h).symm.trans ((hI t' i).mp h'))]
  rw [← hu]

theorem mem_rowR (j : Ch) (i : S256x256.Idx) : i ∈ (rowR j).set ↔ ch i = j := by
  rw [Rect.mem_set_unit, Fin.ext_iff]
  have h0 : (i 0).val < 256 := (i 0).isLt
  have h1 : (i 1).val < 256 := (i 1).isLt
  show (∀ a : Fin 2, _) ↔ (i 0).val / 32 = j.val
  rw [Fin.forall_fin_two]
  show (32 * j.val ≤ (i 0).val ∧ (i 0).val < 32 * j.val + 32) ∧ (0 ≤ (i 1).val ∧ (i 1).val < 0 + 256) ↔ _
  omega

/-- The chunk of an index of the input block. -/
def chX (i : S1x1x256x256.Idx) : Ch := ⟨(i 2).val / 32, by have h : (i 2).val < 256 := (i 2).isLt; omega⟩
/-- The stage and chunk of an index of the landing buffer. -/
def chG (i : S2x256x256.Idx) : St × Ch := (i 0, ⟨(i 1).val / 32, by have h : (i 1).val < 256 := (i 1).isLt; omega⟩)

theorem mem_rowX (j : Ch) (i : S1x1x256x256.Idx) : i ∈ (rowX j).set ↔ chX i = j := by
  rw [Rect.mem_set_unit, Fin.ext_iff]
  have h0 : (i 0).val < 1 := (i 0).isLt
  have h1 : (i 1).val < 1 := (i 1).isLt
  have h2 : (i 2).val < 256 := (i 2).isLt
  have h3 : (i 3).val < 256 := (i 3).isLt
  show (∀ a : Fin 4, _) ↔ (i 2).val / 32 = j.val
  rw [Fin.forall_fin_succ, Fin.forall_fin_succ, Fin.forall_fin_two]
  show (0 ≤ (i 0).val ∧ (i 0).val < 0 + 1) ∧ (0 ≤ (i 1).val ∧ (i 1).val < 0 + 1)
    ∧ (32 * j.val ≤ (i 2).val ∧ (i 2).val < 32 * j.val + 32) ∧ (0 ≤ (i 3).val ∧ (i 3).val < 0 + 256) ↔ _
  omega

theorem mem_rowG (t : St × Ch) (i : S2x256x256.Idx) : i ∈ (rowG t.1 t.2).set ↔ chG i = t := by
  obtain ⟨s, j⟩ := t
  rw [Rect.mem_set_unit]
  have h0 : (i 0).val < 2 := (i 0).isLt
  have h1 : (i 1).val < 256 := (i 1).isLt
  have h2 : (i 2).val < 256 := (i 2).isLt
  have e : chG i = (s, j) ↔ (i 0).val = s.val ∧ (i 1).val / 32 = j.val := by
    exact ⟨fun h => ⟨congrArg (fun t : St × Ch => t.1.val) h, congrArg (fun t : St × Ch => t.2.val) h⟩,
      fun h => Prod.ext (Fin.ext h.1) (Fin.ext h.2)⟩
  rw [e]
  show (∀ a : Fin 3, _) ↔ _
  rw [Fin.forall_fin_succ, Fin.forall_fin_two]
  show (s.val ≤ (i 0).val ∧ (i 0).val < s.val + 1) ∧ (32 * j.val ≤ (i 1).val ∧ (i 1).val < 32 * j.val + 32)
    ∧ (0 ≤ (i 2).val ∧ (i 2).val < 0 + 256) ↔ _
  omega

theorem set_f (j : Ch) : (fC j).view.set = (rowR j).set := View.set_slice_whole _ _
theorem set_b (j : Ch) : (bC j).view.set = (rowR j).set := View.set_slice_whole _ _
theorem set_a (j : Ch) : (aC j).view.set = (rowR j).set := View.set_slice_whole _ _
theorem set_o (j : Ch) : (oC j).view.set = (rowR j).set := View.set_slice_whole _ _
theorem set_x (j : Ch) : (xC j).view.set = (rowX j).set := (View.set_reshape _ _).trans (View.set_slice_whole _ _)
theorem set_g (s : St) (j : Ch) : (gC s j).view.set = (rowG s j).set := (View.set_reshape _ _).trans (View.set_slice_whole _ _)

section Split
variable (m : (ℓ : Loc nD τ sig) → Buf (Elt F) ℓ)

theorem x_split (q : PosShare TreeShare) (c : Dev nD) :
    (((c : Thread nD τ).loc main_arg0) ↦{q} m ((c : Thread nD τ).loc main_arg0) : sProp 𝕄) = bigSep Finset.univ fun j => xP m q c j :=
  split_by (ℓ := (c : Thread nD τ).loc main_arg0) chX (fun j => (xC j).view.set) fun j i => by rw [set_x]; exact mem_rowX j i
theorem f_split (q : PosShare TreeShare) (c : Dev nD) (f : Buf (Elt F) ((c : Thread nD τ).loc cc0_scratch0)) :
    (((c : Thread nD τ).loc cc0_scratch0) ↦{q} f : sProp 𝕄) = bigSep Finset.univ fun j => fP q c j f :=
  split_by (ℓ := (c : Thread nD τ).loc cc0_scratch0) ch (fun j => (fC j).view.set) fun j i => by rw [set_f]; exact mem_rowR j i
theorem b_split (q : PosShare TreeShare) (c : Dev nD) (f : Buf (Elt F) ((c : Thread nD τ).loc cc0_scratch1)) :
    (((c : Thread nD τ).loc cc0_scratch1) ↦{q} f : sProp 𝕄) = bigSep Finset.univ fun j => bP q c j f :=
  split_by (ℓ := (c : Thread nD τ).loc cc0_scratch1) ch (fun j => (bC j).view.set) fun j i => by rw [set_b]; exact mem_rowR j i
theorem a_split (q : PosShare TreeShare) (c : Dev nD) (f : Buf (Elt F) ((c : Thread nD τ).loc cc0_scratch2)) :
    (((c : Thread nD τ).loc cc0_scratch2) ↦{q} f : sProp 𝕄) = bigSep Finset.univ fun j => aP q c j f :=
  split_by (ℓ := (c : Thread nD τ).loc cc0_scratch2) ch (fun j => (aC j).view.set) fun j i => by rw [set_a]; exact mem_rowR j i
theorem o_split (q : PosShare TreeShare) (c : Dev nD) (f : Buf (Elt F) ((c : Thread nD τ).loc cc0_stg0_0)) :
    (((c : Thread nD τ).loc cc0_stg0_0) ↦{q} f : sProp 𝕄) = bigSep Finset.univ fun j => oP q c j f :=
  split_by (ℓ := (c : Thread nD τ).loc cc0_stg0_0) ch (fun j => (oC j).view.set) fun j i => by rw [set_o]; exact mem_rowR j i
theorem g_split (q : PosShare TreeShare) (c : Dev nD) (f : Buf (Elt F) ((c : Thread nD τ).loc cc0_scratch3)) :
    (((c : Thread nD τ).loc cc0_scratch3) ↦{q} f : sProp 𝕄) = bigSep Finset.univ fun t : St × Ch => gP q c t.1 t.2 f :=
  split_by (ℓ := (c : Thread nD τ).loc cc0_scratch3) chG (fun t : St × Ch => (gC t.1 t.2).view.set) fun t i => by rw [set_g]; exact mem_rowG t i

/-! ## What is written into a chunk -/

/-- Every element of a view written with a buffer's values holds that buffer's value. -/
theorem write_on {sp : Space} {s : Shape} {e : EltTy} (v : View sig .tc sp s e) (f g : v.ty.Contents (Elt F)) (w : s.Idx → Elt F e)
    (h : ∀ x, _root_.cast (congrArg (Elt F) v.elt_eq.symm) (w x) = g (v.emb x)) :
    ∀ i ∈ v.set, v.write (Elt F) f w Finset.univ i = g i := by
  intro i hi
  obtain ⟨x, -, rfl⟩ := Finset.mem_map.mp hi
  rw [View.write_emb_of_mem f w (Finset.mem_univ x), h x]

/-- The copy in leaves the f32 copy's rows. -/
theorem copied_in (c : Dev nD) (j : Ch) (f : Buf (Elt F) ((fC j).view.loc (c : Thread nD τ))) :
    ((fC j).view.loc (c : Thread nD τ) ↦[(fC j).view.set]{fullShare}
      (fC j).view.write (Elt F) f ((xC j).view.read (Elt F) (m ((c : Thread nD τ).loc main_arg0))) Finset.univ : sProp 𝕄)
      = fP fullShare c j (fV m c) :=
  pointsTo_congr (write_on (fC j).view f (fV m c) _ fun y => by
    show m ((c : Thread nD τ).loc main_arg0) ((xC j).view.emb y) = m ((c : Thread nD τ).loc main_arg0) (up4 ((rowR j).emb y))
    rw [emb_x])

/-- The stage-0 send leaves the sender's rounded rows in the partner's landing buffer. -/
theorem landed_b (c : Dev nD) (j : Ch) (f : Buf (Elt F) ((gC 0 j).view.loc (pr 0 j c : Thread nD τ))) :
    ((gC 0 j).view.loc (pr 0 j c : Thread nD τ) ↦[(gC 0 j).view.set]{fullShare}
      (gC 0 j).view.write (Elt F) f ((bC j).view.read (Elt F) (bV m c)) Finset.univ : sProp 𝕄)
      = gP fullShare (pr 0 j c) 0 j (gV m (pr 0 j c)) :=
  pointsTo_congr (write_on (gC 0 j).view f (gV m (pr 0 j c)) _ fun y => by
    rw [emb_g, gV_up3, ch_row, pr_pr]; rfl)

/-- The stage-1 send leaves the sender's pair sums in the partner's landing buffer. -/
theorem landed_a (c : Dev nD) (j : Ch) (f : Buf (Elt F) ((gC 1 j).view.loc (pr 1 j c : Thread nD τ))) :
    ((gC 1 j).view.loc (pr 1 j c : Thread nD τ) ↦[(gC 1 j).view.set]{fullShare}
      (gC 1 j).view.write (Elt F) f ((aC j).view.read (Elt F) (aV m c)) Finset.univ : sProp 𝕄)
      = gP fullShare (pr 1 j c) 1 j (gV m (pr 1 j c)) :=
  pointsTo_congr (write_on (gC 1 j).view f (gV m (pr 1 j c)) _ fun y => by
    rw [emb_g, gV_up3, ch_row, pr_pr]; rfl)

/-- A landed chunk as a load and a shape cast read it. -/
theorem read_landed (c : Dev nD) (s : St) (j : Ch) (y : S32x256.Idx) (h : S1x32x256.ShapeCasts S32x256) :
    (shapeCast S32x256 (gM.view.readAt (Elt F) (rowG s j).toLoadRect (gV m c)) h : S32x256.Idx → F .bf16) y
      = sV m s (pr s j c) ((rowR j).emb y) := by
  show gV m c ((rowG s j).emb (Shape.reshapeEquiv _ y)) = _
  rw [rowG_emb, gV_up3, ch_row]

/-- The store of the rounded rows. -/
theorem stored_b (c : Dev nD) (j : Ch) (f : Buf (Elt F) ((bC j).view.loc (c : Thread nD τ))) (w : S32x256.Idx → F .bf16)
    (hw : w = truncf .bf16 (fM.view.readAt (Elt F) (rowR j).toLoadRect (fV m c) : FVec F S32x256 .f32) bitsLt_bf16_f32) :
    ((bM.access (rowR j)).loc (c : Thread nD τ) ↦[(bC j).view.set]{fullShare} (bM.access (rowR j)).write (Elt F) f w Finset.univ : sProp 𝕄)
      = bP fullShare c j (bV m c) :=
  pointsTo_congr (write_on (bC j).view f (bV m c) w fun y => by subst hw; rfl)

/-- The store of the pair sums. -/
theorem stored_a (c : Dev nD) (j : Ch) (f : Buf (Elt F) ((aC j).view.loc (c : Thread nD τ))) (w : S32x256.Idx → F .bf16)
    (hw : w = addf (bM.view.readAt (Elt F) (rowR j).toLoadRect (bV m c) : FVec F S32x256 .bf16)
      (shapeCast S32x256 (gM.view.readAt (Elt F) (rowG 0 j).toLoadRect (gV m c)) shapeCasts_S1x32x256_S32x256)) :
    ((aM.access (rowR j)).loc (c : Thread nD τ) ↦[(aC j).view.set]{fullShare} (aM.access (rowR j)).write (Elt F) f w Finset.univ : sProp 𝕄)
      = aP fullShare c j (aV m c) :=
  pointsTo_congr (write_on (aC j).view f (aV m c) w fun y => by
    subst hw
    rw [show shapeCast S32x256 (gM.view.readAt (Elt F) (rowG 0 j).toLoadRect (gV m c)) shapeCasts_S1x32x256_S32x256
        = fun y => bV m (pr 0 j c) ((rowR j).emb y) from funext fun y => read_landed m c 0 j y _]
    show _ = addf (bV m c) (bV m (pr 0 (ch ((rowR j).emb y)) c)) ((rowR j).emb y)
    rw [ch_row]; rfl)

/-- The store of the result. -/
theorem stored_o (c : Dev nD) (j : Ch) (f : Buf (Elt F) ((oC j).view.loc (c : Thread nD τ))) (w : S32x256.Idx → F .bf16)
    (hw : w = addf (aM.view.readAt (Elt F) (rowR j).toLoadRect (aV m c) : FVec F S32x256 .bf16)
      (shapeCast S32x256 (gM.view.readAt (Elt F) (rowG 1 j).toLoadRect (gV m c)) shapeCasts_S1x32x256_S32x256)) :
    ((oM.access (rowR j)).loc (c : Thread nD τ) ↦[(oC j).view.set]{fullShare} (oM.access (rowR j)).write (Elt F) f w Finset.univ : sProp 𝕄)
      = oP fullShare c j (oV m c) :=
  pointsTo_congr (write_on (oC j).view f (oV m c) w fun y => by
    subst hw
    rw [show shapeCast S32x256 (gM.view.readAt (Elt F) (rowG 1 j).toLoadRect (gV m c)) shapeCasts_S1x32x256_S32x256
        = fun y => aV m (pr 1 j c) ((rowR j).emb y) from funext fun y => read_landed m c 1 j y _]
    show _ = addf (aV m c) (aV m (pr 1 (ch ((rowR j).emb y)) c)) ((rowR j).emb y)
    rw [ch_row]; rfl)

end Split

end Cert.KernelIdeal.Hier
end
-- ==== Proof.KernelIdeal.Steps.lean ====
/-
# Steps: what the kernel does to one chunk, phase by phase

Each of the kernel's phases treats the eight chunks one after the other and does the same to each. The lemmas here
state a phase once, for any chunk, as a step of a chunk's state: what of the chunk a device holds before and after.
-/
module

public import proofs.«01_k».proof.Proof.KernelIdeal.Rows

@[expose] public section

noncomputable section

namespace Cert.KernelIdeal.Hier

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program at the head of device `c`'s kernel. -/
abbrev at' (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The chunks at a given row -/

abbrev rO (o : ℕ) (h : ∀ a, (![o, 0] : Fin 2 → Nat) a + S32x256.size a ≤ S256x256.size a) : Rect S256x256 :=
  Rect.unit (s := S256x256) ![o, 0] S32x256.size h
abbrev rG (s o : ℕ) (h : ∀ a, (![s, o, 0] : Fin 3 → Nat) a + S1x32x256.size a ≤ S2x256x256.size a) : Rect S2x256x256 :=
  Rect.unit (s := S2x256x256) ![s, o, 0] S1x32x256.size h
abbrev xO (o : ℕ) (h : ∀ a, (![0, 0, o, 0] : Fin 4 → Nat) a + S1x1x32x256.size a ≤ S1x1x256x256.size a) : Memref sig .tc .hbm S32x256 .f32 :=
  (xM.slice (Rect.unit (s := S1x1x256x256) ![0, 0, o, 0] S1x1x32x256.size h) (fun _ => rfl)).squeeze S32x256 squeezes_S1x1x32x256_S32x256
abbrev fO (o : ℕ) (h : ∀ a, (![o, 0] : Fin 2 → Nat) a + S32x256.size a ≤ S256x256.size a) : Memref sig .tc .vmem S32x256 .f32 :=
  fM.slice (rO o h) (fun _ => rfl)
abbrev bO (o : ℕ) (h : ∀ a, (![o, 0] : Fin 2 → Nat) a + S32x256.size a ≤ S256x256.size a) : Memref sig .tc .vmem S32x256 .bf16 :=
  bM.slice (rO o h) (fun _ => rfl)
abbrev aO (o : ℕ) (h : ∀ a, (![o, 0] : Fin 2 → Nat) a + S32x256.size a ≤ S256x256.size a) : Memref sig .tc .vmem S32x256 .bf16 :=
  aM.slice (rO o h) (fun _ => rfl)
abbrev gO (s o : ℕ) (h : ∀ a, (![s, o, 0] : Fin 3 → Nat) a + S1x32x256.size a ≤ S2x256x256.size a) : Memref sig .tc .vmem S32x256 .bf16 :=
  (gM.slice (rG s o h) (fun _ => rfl)).squeeze S32x256 squeezes_S1x32x256_S32x256

omit [FloatOps F] in
theorem on_f (j : Ch) : fM.view.setOn (rowR j).toLoadRect.set ⊆ (fC j).view.set := (subset_of_eq (View.set_slice _ _).symm)
theorem on_b (j : Ch) : bM.view.setOn (rowR j).toLoadRect.set ⊆ (bC j).view.set := (subset_of_eq (View.set_slice _ _).symm)
theorem on_a (j : Ch) : aM.view.setOn (rowR j).toLoadRect.set ⊆ (aC j).view.set := (subset_of_eq (View.set_slice _ _).symm)
theorem on_o (j : Ch) : oM.view.setOn (rowR j).toLoadRect.set ⊆ (oC j).view.set := (subset_of_eq (View.set_slice _ _).symm)
theorem into_b (j : Ch) : (bM.access (rowR j)).setOn Finset.univ ⊆ (bC j).view.set := Finset.Subset.refl _
theorem into_a (j : Ch) : (aM.access (rowR j)).setOn Finset.univ ⊆ (aC j).view.set := Finset.Subset.refl _
theorem into_o (j : Ch) : (oM.access (rowR j)).setOn Finset.univ ⊆ (oC j).view.set := Finset.Subset.refl _
theorem on_g (s : St) (j : Ch) : gM.view.setOn (rowG s j).toLoadRect.set ⊆ (gC s j).view.set :=
  subset_of_eq ((View.set_slice _ _).symm.trans (View.set_reshape _ _).symm)

section Steps
variable (m : (ℓ : Loc nD τ sig) → Buf (Elt F) ℓ) (K : Dev nD × CK → ℕ)

/-- A chunk's rounded rows in two halves, one to send and one to read. -/
theorem b_halves (c : Dev nD) (j : Ch) :
    (bP fullShare c j (bV m c) : sProp 𝕄) ⊣⊢ iprop(bP fullShare.left c j (bV m c) ∗ bP fullShare.right c j (bV m c)) :=
  pointsTo_share (PosShare.mem_left_op_right fullShare)
theorem a_halves (c : Dev nD) (j : Ch) :
    (aP fullShare c j (aV m c) : sProp 𝕄) ⊣⊢ iprop(aP fullShare.left c j (aV m c) ∗ aP fullShare.right c j (aV m c)) :=
  pointsTo_share (PosShare.mem_left_op_right fullShare)

/-! ## What every device knows -/

/-- Every semaphore's invariant, that each has reached its round, and the levels. -/
def records : sProp 𝕄 :=
  iprop((bigSep Finset.univ fun p : Dev nD × CK => cellInv ER (Rd m) (K p) (cell p.1 p.2))
    ∗ (bigSep Finset.univ fun p : Dev nD × CK => reached ER (cell p.1 p.2) 0) ∗ levAts L lv)

instance records_persistent : BI.Persistent (records m K) := by unfold records; infer_instance

theorem inv_at (c : Dev nD) (k : CK) : records m K ⊢ cellInv ER (Rd m) (K (c, k)) (cell c k) := by
  unfold records
  iintro ⟨HI, -, -⟩
  ihave H := (show (bigSep Finset.univ fun p : Dev nD × CK => cellInv ER (Rd m) (K p) (cell p.1 p.2)) ⊢ cellInv ER (Rd m) (K (c, k)) (cell c k)
    from bigSep_elim (Finset.mem_univ (c, k))) $$ HI
  iexact H
theorem reached_at (c : Dev nD) (k : CK) : records m K ⊢ reached ER (cell c k) 0 := by
  unfold records
  iintro ⟨-, HR, -⟩
  ihave H := (show (bigSep Finset.univ fun p : Dev nD × CK => reached ER (cell p.1 p.2) 0) ⊢ reached ER (cell c k) 0
    from bigSep_elim (Finset.mem_univ (c, k))) $$ HR
  iexact H
theorem levels_at : records m K ⊢ levAts L lv := by
  unfold records
  iintro ⟨-, -, HL⟩
  iexact HL

/-- What the device owes, whatever it has waited on. -/
def Ow (c : Dev nD) (l : List (St × Ch)) : sProp 𝕄 := iprop(∃ W, owes (c : Thread nD τ) (owed c l) W)

/-! ## The states of a chunk -/

/-- Stage `s` of chunk `j` before its send: the right to pay both ends, the device's places at its own two semaphores and
the credit its partner's send will have brought. -/
def Half (c : Dev nD) (s : St) (j : Ch) : sProp 𝕄 :=
  iprop(dutyTok ER (sndCell c s j) 0 false ∗ dutyTok ER (rcvCell (pr s j c) s j) 0 false
    ∗ atPos ER (sndCell c s j) 0 ∅ 0 ∗ atPos ER (rcvCell c s j) 0 ∅ 0 ∗ cred (tallyAt (rcvCell c s j) () NB))
/-- After its send: the send's own credit in place of the rights. -/
def Sent (c : Dev nD) (s : St) (j : Ch) : sProp 𝕄 :=
  iprop(cred (tallyAt (sndCell c s j) () NB) ∗ atPos ER (sndCell c s j) 0 ∅ 0 ∗ atPos ER (rcvCell c s j) 0 ∅ 0
    ∗ cred (tallyAt (rcvCell c s j) () NB))
/-- After its receive: the rows landed, the send not yet waited for. -/
def Got (c : Dev nD) (s : St) (j : Ch) : sProp 𝕄 :=
  iprop(cred (tallyAt (sndCell c s j) () NB) ∗ atPos ER (sndCell c s j) 0 ∅ 0 ∗ atPos ER (rcvCell c s j) (0 + 1) ∅ 0
    ∗ gP fullShare c s j (gV m c))
/-- After both. -/
def Over (c : Dev nD) (s : St) (j : Ch) : sProp 𝕄 :=
  iprop(atPos ER (sndCell c s j) (0 + 1) ∅ 0 ∗ atPos ER (rcvCell c s j) (0 + 1) ∅ 0 ∗ gP fullShare c s j (gV m c))
/-- The partner's rows that this device's send writes. -/
def Land (c : Dev nD) (s : St) (j : Ch) : sProp 𝕄 := iprop(∃ f, gP fullShare (pr s j c) s j f)

/-- Rows not yet written. -/
def bAny (c : Dev nD) (j : Ch) : sProp 𝕄 := iprop(∃ f, bP fullShare c j f)
def aAny (c : Dev nD) (j : Ch) : sProp 𝕄 := iprop(∃ f, aP fullShare c j f)
def oAny (c : Dev nD) (j : Ch) : sProp 𝕄 := iprop(∃ f, oP fullShare c j f)
def fAny (c : Dev nD) (j : Ch) : sProp 𝕄 := iprop(∃ f, fP fullShare c j f)

/-- At the start. -/
def S0 (c : Dev nD) (j : Ch) : sProp 𝕄 :=
  iprop(xP m fullShare c j ∗ fAny c j ∗ bAny c j ∗ aAny c j ∗ oAny c j ∗ dutyTok ER (inCell c j) 0 false ∗ atPos ER (inCell c j) 0 ∅ 0
    ∗ Half c 0 j ∗ Half c 1 j)
/-- With the copy in on its way. -/
def S1 (c : Dev nD) (j : Ch) : sProp 𝕄 :=
  iprop(bAny c j ∗ aAny c j ∗ oAny c j ∗ cred (tallyAt (inCell c j) () NI) ∗ atPos ER (inCell c j) 0 ∅ 0 ∗ Half c 0 j ∗ Half c 1 j)
/-- With the partners' rows to write. -/
def S1' (c : Dev nD) (j : Ch) : sProp 𝕄 := iprop(S1 c j ∗ Land c 0 j ∗ Land c 1 j)
/-- With the stage-0 send on its way. -/
def S2 (c : Dev nD) (j : Ch) : sProp 𝕄 :=
  iprop(xP m fullShare c j ∗ fP fullShare c j (fV m c) ∗ bP fullShare.right c j (bV m c) ∗ aAny c j ∗ oAny c j
    ∗ atPos ER (inCell c j) (0 + 1) ∅ 0 ∗ Sent c 0 j ∗ Half c 1 j ∗ Land c 1 j)
/-- With the stage-1 send on its way. -/
def S3 (c : Dev nD) (j : Ch) : sProp 𝕄 :=
  iprop(xP m fullShare c j ∗ fP fullShare c j (fV m c) ∗ bP fullShare.right c j (bV m c) ∗ aP fullShare.right c j (aV m c) ∗ oAny c j
    ∗ atPos ER (inCell c j) (0 + 1) ∅ 0 ∗ Got m c 0 j ∗ Sent c 1 j)
/-- With the result stored. -/
def S4 (c : Dev nD) (j : Ch) : sProp 𝕄 :=
  iprop(xP m fullShare c j ∗ fP fullShare c j (fV m c) ∗ bP fullShare.right c j (bV m c) ∗ aP fullShare.right c j (aV m c)
    ∗ oP fullShare c j (oV m c) ∗ atPos ER (inCell c j) (0 + 1) ∅ 0 ∗ Got m c 0 j ∗ Got m c 1 j)
/-- With every transfer over. -/
def S5 (c : Dev nD) (j : Ch) : sProp 𝕄 :=
  iprop(xP m fullShare c j ∗ fP fullShare c j (fV m c) ∗ bP fullShare c j (bV m c) ∗ aP fullShare c j (aV m c)
    ∗ oP fullShare c j (oV m c) ∗ atPos ER (inCell c j) (0 + 1) ∅ 0 ∗ Over m c 0 j ∗ Over m c 1 j)

/-! ## Waits -/

/-- A wait on one of the device's own DMA semaphores hands over what the copy delivers there. -/
theorem wait_own (c : Dev nD) (k : OK) {q : DmaSem sig} (hq : SemLoc.dma q = osem k) {sp sp' : Space} {s s' : Shape} {e e' : EltTy}
    {src : Memref sig .tc sp' s' e'} {dst : Memref sig .tc sp s e} {hsrc : src.view.WordExact} {hdst : dst.view.WordExact}
    (hN : dst.view.dmaCredit = amtOf (.inr k)) {l : List (St × Ch)} (hl : ∀ p ∈ l, lvOf (.inr k) < 2 + p.1.val)
    {kk : PUnit → Prog (TpuEff nD τ sig (Elt F) Λ₀ .tc) PUnit} {Q : PUnit → sProp 𝕄} :
    iprop(records m K ∗ cred (tallyAt (cell c (.inr k)) () (amtOf (.inr k))) ∗ Ow c l ∗ atPos ER (cell c (.inr k)) 0 ∅ 0)
      ⊢ iprop(((Ow c l ∗ atPos ER (cell c (.inr k)) (0 + 1) ∅ 0 ∗ payOf m c false (.inr k)) -∗ at' c (kk ⟨⟩) Q)
          -∗ at' c (.op (.waitDma2 q src dst hsrc hdst) kk) Q) := by
  unfold Ow
  iintro ⟨#HR, Hc, ⟨%W, HO⟩, Hat⟩ Hk
  iapply (Rounds.wp_wait_rest_token 𝒱₀ ER (Rd m) (c : Thread nD τ) none (κ := K (c, .inr k)) (sm := csem (.inr k)) (k' := amtOf (.inr k))
      (fun X => (wpE_waitDma2_eq 𝒱₀ (c : Thread nD τ) none Set.univ X).trans (by rw [hq, hN]; rfl)) (Set.mem_univ _) () (O := owed c l) (W := W) (R := 0) (m := 0) (T := ∅)
      (by rw [Nat.zero_add]; exact (Rd_expect m c k).symm)) $$ [Hc HO Hat]
  · isplitr; · iapply (inv_at m K c (.inr k)); iexact HR
    isplitl [Hc]; · iexact Hc
    isplitl [HO]; · iexact HO
    isplitr
    · iapply (mayWait_owed c (csem (.inr k)) l (lvOf (.inr k)) (le_of_eq (by unfold lv; rw [kind_csem])) hl)
      iapply (levels_at m K); iexact HR
    iexact Hat
  iintro ⟨HO, Hat, -, Hp⟩
  ihave Hp := (Entails.of_eq (Rd_rest m c k)) $$ Hp
  iapply Hk
  isplitl [HO]; · iexists _; iexact HO
  isplitl [Hat]; · iexact Hat
  iexact Hp

/-! ## Sends -/

/-- The stage-0 send of a chunk: half of the rounded rows go with it, and the partner's rows to land in. -/
theorem send_b (c : Dev nD) (j : Ch) {n : Dev nD} (hn : n = pr 0 j c) {qs qr : DmaSem sig} (hs : qs = sndQ 0 j) (hr : qr = rcvQ 0 j)
    {hsc : (gC 0 j).view.ref.isScScratch = false} {hsrc : (bC j).view.WordExact} {hdst : (gC 0 j).view.WordExact}
    {hsem : DmaTarget.Typed .vmem (.dma qr) (.remote (Dev.tc n : Thread nD τ) (gC 0 j) (.dma qs) hsc)} {l : List (St × Ch)}
    {kk : PUnit → Prog (TpuEff nD τ sig (Elt F) Λ₀ .tc) PUnit} {Q : PUnit → sProp 𝕄} :
    iprop(records m K ∗ bP fullShare.left c j (bV m c) ∗ Land c 0 j ∗ Ow c ((0, j) :: l)
        ∗ dutyTok ER (sndCell c 0 j) 0 false ∗ dutyTok ER (rcvCell (pr 0 j c) 0 j) 0 false)
      ⊢ iprop(((cred (tallyAt (sndCell c 0 j) () NB) ∗ Ow c l) -∗ at' c (kk ⟨⟩) Q)
          -∗ at' c (.op (.enqueueDma (bC j) (.remote (Dev.tc n : Thread nD τ) (gC 0 j) (.dma qs) hsc) (.dma qr) hsrc hdst hsem) kk) Q) := by
  subst hn hs hr
  unfold Ow Land
  iintro ⟨#HR, Hb, ⟨%f, Hg⟩, ⟨%W, HO⟩, Hts, Htr⟩ Hk
  unfold bP gP
  iapply (Rounds.wp_send_pointsTo 𝒱₀ ER (Rd m) (c : Thread nD τ) none (κ₁ := K (c, kSnd 0 j)) (κ₂ := K (pr 0 j c, kRcv 0 j))
    (r₁ := 0) (r₂ := 0) (d₁ := false) (d₂ := false) (fd := f)
    (by show false ∈ (Rd m).duties (cell c (kSnd 0 j)) 0; rw [Rd_duties]; exact Finset.mem_singleton_self _)
    (by show false ∈ (Rd m).duties (cell (pr 0 j c) (kRcv 0 j)) 0; rw [Rd_duties]; exact Finset.mem_singleton_self _)
    () () NB rfl (Rd_amount m c (kSnd 0 j) false) (Rd_amount m (pr 0 j c) (kRcv 0 j) false) (owed c l) rfl (W := W)
    (Entails.of_eq (Rd_payload m c (kSnd 0 j) false).symm)
    (Entails.of_eq ((landed_b m c j f).trans (Rd_payload m (pr 0 j c) (kRcv 0 j) false).symm))) $$ [Hb Hg HO Hts Htr]
  · isplitr; · iapply (inv_at m K c (kSnd 0 j)); iexact HR
    isplitr; · iapply (inv_at m K (pr 0 j c) (kRcv 0 j)); iexact HR
    isplitl [Hb]; · iexact Hb
    isplitl [Hg]; · iexact Hg
    isplitl [HO]; · iexact HO
    isplitl [Hts]; · iexact Hts
    isplitr; · iapply (reached_at m K c (kSnd 0 j)); iexact HR
    isplitl [Htr]; · iexact Htr
    iapply (reached_at m K (pr 0 j c) (kRcv 0 j)); iexact HR
  iintro ⟨Hc, HO⟩
  iapply Hk
  isplitl [Hc]; · iexact Hc
  iexists W; iexact HO

/-- The stage-1 send of a chunk, of the pair sums. -/
theorem send_a (c : Dev nD) (j : Ch) {n : Dev nD} (hn : n = pr 1 j c) {qs qr : DmaSem sig} (hs : qs = sndQ 1 j) (hr : qr = rcvQ 1 j)
    {hsc : (gC 1 j).view.ref.isScScratch = false} {hsrc : (aC j).view.WordExact} {hdst : (gC 1 j).view.WordExact}
    {hsem : DmaTarget.Typed .vmem (.dma qr) (.remote (Dev.tc n : Thread nD τ) (gC 1 j) (.dma qs) hsc)} {l : List (St × Ch)}
    {kk : PUnit → Prog (TpuEff nD τ sig (Elt F) Λ₀ .tc) PUnit} {Q : PUnit → sProp 𝕄} :
    iprop(records m K ∗ aP fullShare.left c j (aV m c) ∗ Land c 1 j ∗ Ow c ((1, j) :: l)
        ∗ dutyTok ER (sndCell c 1 j) 0 false ∗ dutyTok ER (rcvCell (pr 1 j c) 1 j) 0 false)
      ⊢ iprop(((cred (tallyAt (sndCell c 1 j) () NB) ∗ Ow c l) -∗ at' c (kk ⟨⟩) Q)
          -∗ at' c (.op (.enqueueDma (aC j) (.remote (Dev.tc n : Thread nD τ) (gC 1 j) (.dma qs) hsc) (.dma qr) hsrc hdst hsem) kk) Q) := by
  subst hn hs hr
  unfold Ow Land
  iintro ⟨#HR, Hb, ⟨%f, Hg⟩, ⟨%W, HO⟩, Hts, Htr⟩ Hk
  unfold aP gP
  iapply (Rounds.wp_send_pointsTo 𝒱₀ ER (Rd m) (c : Thread nD τ) none (κ₁ := K (c, kSnd 1 j)) (κ₂ := K (pr 1 j c, kRcv 1 j))
    (r₁ := 0) (r₂ := 0) (d₁ := false) (d₂ := false) (fd := f)
    (by show false ∈ (Rd m).duties (cell c (kSnd 1 j)) 0; rw [Rd_duties]; exact Finset.mem_singleton_self _)
    (by show false ∈ (Rd m).duties (cell (pr 1 j c) (kRcv 1 j)) 0; rw [Rd_duties]; exact Finset.mem_singleton_self _)
    () () NB rfl (Rd_amount m c (kSnd 1 j) false) (Rd_amount m (pr 1 j c) (kRcv 1 j) false) (owed c l) rfl (W := W)
    (Entails.of_eq (Rd_payload m c (kSnd 1 j) false).symm)
    (Entails.of_eq ((landed_a m c j f).trans (Rd_payload m (pr 1 j c) (kRcv 1 j) false).symm))) $$ [Hb Hg HO Hts Htr]
  · isplitr; · iapply (inv_at m K c (kSnd 1 j)); iexact HR
    isplitr; · iapply (inv_at m K (pr 1 j c) (kRcv 1 j)); iexact HR
    isplitl [Hb]; · iexact Hb
    isplitl [Hg]; · iexact Hg
    isplitl [HO]; · iexact HO
    isplitl [Hts]; · iexact Hts
    isplitr; · iapply (reached_at m K c (kSnd 1 j)); iexact HR
    isplitl [Htr]; · iexact Htr
    iapply (reached_at m K (pr 1 j c) (kRcv 1 j)); iexact HR
  iintro ⟨Hc, HO⟩
  iapply Hk
  isplitl [Hc]; · iexact Hc
  iexists W; iexact HO

/-! ## The phases -/

/-- The copy in of a chunk. -/
theorem enter (c : Dev nD) (j : Ch) {o : ℕ} (ho : o = 32 * j.val) {q : DmaSem sig} (hq : q = inQ j)
    {h₁ : ∀ a, (![o, 0] : Fin 2 → Nat) a + S32x256.size a ≤ S256x256.size a}
    {h₂ : ∀ a, (![0, 0, o, 0] : Fin 4 → Nat) a + S1x1x32x256.size a ≤ S1x1x256x256.size a}
    {hsrc : (xO o h₂).view.WordExact} {hdst : (fO o h₁).view.WordExact} {hsem : DmaTarget.Typed (nD := nD) (τ := τ) (p := .tc) .hbm (.dma q) (.here (fO o h₁))}
    {kk : PUnit → Prog (TpuEff nD τ sig (Elt F) Λ₀ .tc) PUnit} {Q : PUnit → sProp 𝕄} :
    iprop(records m K ∗ S0 m c j)
      ⊢ iprop((S1 c j -∗ at' c (kk ⟨⟩) Q) -∗ at' c (.op (.enqueueDma (xO o h₂) (.here (fO o h₁)) (.dma q) hsrc hdst hsem) kk) Q) := by
  subst ho hq
  unfold S0 S1 fAny
  iintro ⟨#HR, Hx, ⟨%f, Hf⟩, Hb, Ha, Ho, Htok, Hat, H0, H1⟩ Hk
  unfold xP fP
  iapply (Rounds.wp_copy_pointsTo 𝒱₀ ER (Rd m) (c : Thread nD τ) none (κ := K (c, kIn j)) (r := 0) (d := false)
    (src := xC j) (dst := fC j) (fd := f)
    (by show false ∈ (Rd m).duties (cell c (kIn j)) 0; rw [Rd_duties]; exact Finset.mem_singleton_self _)
    () NI rfl (Rd_amount m c (kIn j) false)
    (by
      show _ ⊢ (Rd m).payload (cell c (kIn j)) 0 false
      rw [copied_in, Rd_payload]; exact Entails.refl _)) $$ [Hx Hf Htok]
  · isplitr; · iapply (inv_at m K c (kIn j)); iexact HR
    isplitl [Hx]; · iexact Hx
    isplitl [Hf]; · iexact Hf
    isplitl [Htok]; · iexact Htok
    iapply (reached_at m K c (kIn j)); iexact HR
  iintro Hc
  iapply Hk
  isplitl [Hb]; · iexact Hb
  isplitl [Ha]; · iexact Ha
  isplitl [Ho]; · iexact Ho
  isplitl [Hc]; · iexact Hc
  isplitl [Hat]; · iexact Hat
  isplitl [H0] <;> iassumption

set_option maxHeartbeats 2000000 in
/-- The first phase of a chunk: wait for the copy in, round it, send it to the stage-0 partner. -/
theorem phase_a (c : Dev nD) (j : Ch) {l : List (St × Ch)} {o : ℕ} (ho : o = 32 * j.val)
    {qi qs qr : DmaSem sig} (hi : qi = inQ j) (hs : qs = sndQ 0 j) (hr : qr = rcvQ 0 j) {n : Dev nD} (hn : n = pr 0 j c)
    {pay : (S32x256.Idx → Elt F .f32) → S32x256.Idx → Elt F .bf16} (hpay : ∀ v, pay v = truncf .bf16 (v : FVec F S32x256 .f32) bitsLt_bf16_f32)
    {h₁ : ∀ a, (![o, 0] : Fin 2 → Nat) a + S32x256.size a ≤ S256x256.size a}
    {h₂ : ∀ a, (![0, 0, o, 0] : Fin 4 → Nat) a + S1x1x32x256.size a ≤ S1x1x256x256.size a}
    {h₃ : ∀ a, (![0, o, 0] : Fin 3 → Nat) a + S1x32x256.size a ≤ S2x256x256.size a}
    {e₁ : (xO o h₂).view.WordExact} {e₂ : (fO o h₁).view.WordExact} {e₃ : fM.view.LoadsAt (rO o h₁).toLoadRect}
    {e₄ : bM.view.LoadsAt (rO o h₁).toLoadRect} {e₅ : (bM.access (rO o h₁)).Stores Finset.univ}
    {e₆ : (Finset.univ : Finset (rO o h₁).shape.Idx) = Finset.univ ∨ ∀ a, (rO o h₁).stride a = 1}
    {e₇ : (gO 0 o h₃).view.ref.isScScratch = false} {e₈ : (bO o h₁).view.WordExact} {e₉ : (gO 0 o h₃).view.WordExact}
    {e₁₀ : DmaTarget.Typed .vmem (.dma qr) (.remote (Dev.tc n : Thread nD τ) (gO 0 o h₃) (.dma qs) e₇)}
    {kk : PUnit → Prog (TpuEff nD τ sig (Elt F) Λ₀ .tc) PUnit} {Q : PUnit → sProp 𝕄} :
    iprop(records m K ∗ S1' c j ∗ Ow c ((0, j) :: l))
      ⊢ iprop(((S2 m c j ∗ Ow c l) -∗ at' c (kk ⟨⟩) Q)
          -∗ at' c (.op (.waitDma2 qi (xO o h₂) (fO o h₁) e₁ e₂) fun _ =>
              .op (.load fM (rO o h₁).toLoadRect e₃) fun v =>
              .op (.load bM (rO o h₁).toLoadRect e₄) fun _ =>
              .op (.store bM (rO o h₁) (pay v) Finset.univ e₅ e₆) fun _ =>
              .op (.enqueueDma (bO o h₁) (.remote (Dev.tc n : Thread nD τ) (gO 0 o h₃) (.dma qs) e₇) (.dma qr) e₈ e₉ e₁₀) kk) Q) := by
  subst ho hi
  unfold S1' S1 S2 Half Sent bAny
  iintro ⟨#HR, ⟨⟨⟨%f, Hb⟩, Ha, Ho, Hc, Hat, ⟨Hts, Htr, Has, Har, Hcr⟩, H1⟩, HL0, HL1⟩, HO⟩ Hk
  iapply (wait_own m K c (.inl j) rfl (src := xC j) (dst := fC j) rfl (l := (0, j) :: l) (fun p _ => Nat.lt_of_lt_of_le (Nat.zero_lt_succ 1) (Nat.le_add_right 2 _))) $$ [Hc HO Hat]
  · isplitr; · iexact HR
    isplitl [Hc]; · iexact Hc
    isplitl [HO]; · iexact HO
    iexact Hat
  iintro ⟨HO, Hat, Hp⟩
  ihave Hp := (show payOf m c false (.inr (.inl j)) ⊢ iprop(fP fullShare c j (fV m c) ∗ xP m fullShare c j) from Entails.refl _) $$ Hp
  icases Hp with ⟨Hf, Hx⟩
  unfold fP bP
  iapply (wp_load 𝒱₀ (c : Thread nD τ) none Set.univ (m := fM) (on_f j)) $$ Hf; iintro Hf
  iapply (wp_load 𝒱₀ (c : Thread nD τ) none Set.univ (m := bM) (on_b j)) $$ Hb; iintro Hb
  iapply (wp_store 𝒱₀ (c : Thread nD τ) none Set.univ (m := bM) (r := rowR j) (Mk := Finset.univ) (into_b j)) $$ Hb; iintro Hb
  ihave Hb := (Entails.of_eq (stored_b m c j f _ (hpay _))) $$ Hb
  ihave Hb := (b_halves m c j).1 $$ Hb
  icases Hb with ⟨Hbl, Hbr⟩
  iapply (send_b m K c j hn hs hr (l := l)) $$ [Hbl HL0 HO Hts Htr]
  · isplitr; · iexact HR
    isplitl [Hbl]; · iexact Hbl
    isplitl [HL0]; · iexact HL0
    isplitl [HO]; · iexact HO
    isplitl [Hts] <;> iassumption
  iintro ⟨Hcs, HO⟩
  iapply Hk
  isplitr [HO]
  · isplitl [Hx]; · iexact Hx
    isplitl [Hf]; · iexact Hf
    isplitl [Hbr]; · unfold bP; iexact Hbr
    isplitl [Ha]; · iexact Ha
    isplitl [Ho]; · iexact Ho
    isplitl [Hat]; · iexact Hat
    isplitl [Hcs Has Har Hcr]
    · isplitl [Hcs]; · iexact Hcs
      isplitl [Has]; · iexact Has
      isplitl [Har] <;> iassumption
    isplitl [H1] <;> iassumption
  iexact HO

set_option maxHeartbeats 2000000 in
/-- The second phase of a chunk: wait for the stage-0 receive, add what landed, send the sum to the stage-1 partner. -/
theorem phase_b (c : Dev nD) (j : Ch) {l : List (St × Ch)} (hl : ∀ p ∈ (1, j) :: l, 2 < 2 + p.1.val) {o : ℕ} (ho : o = 32 * j.val)
    {qi qs qr : DmaSem sig} (hi : qi = rcvQ 0 j) (hs : qs = sndQ 1 j) (hr : qr = rcvQ 1 j) {n : Dev nD} (hn : n = pr 1 j c)
    {pay : (S32x256.Idx → Elt F .bf16) → (S1x32x256.Idx → Elt F .bf16) → S32x256.Idx → Elt F .bf16}
    (hpay : ∀ v w, pay v w = addf (v : FVec F S32x256 .bf16) (shapeCast S32x256 (w : FVec F S1x32x256 .bf16) shapeCasts_S1x32x256_S32x256))
    {h₁ : ∀ a, (![o, 0] : Fin 2 → Nat) a + S32x256.size a ≤ S256x256.size a}
    {h₂ : ∀ a, (![0, o, 0] : Fin 3 → Nat) a + S1x32x256.size a ≤ S2x256x256.size a}
    {h₃ : ∀ a, (![1, o, 0] : Fin 3 → Nat) a + S1x32x256.size a ≤ S2x256x256.size a}
    {e₁ : (bO o h₁).view.WordExact} {e₂ : (gO 0 o h₂).view.WordExact} {e₃ : bM.view.LoadsAt (rO o h₁).toLoadRect}
    {e₃' : gM.view.LoadsAt (rG 0 o h₂).toLoadRect}
    {e₄ : aM.view.LoadsAt (rO o h₁).toLoadRect} {e₅ : (aM.access (rO o h₁)).Stores Finset.univ}
    {e₆ : (Finset.univ : Finset (rO o h₁).shape.Idx) = Finset.univ ∨ ∀ a, (rO o h₁).stride a = 1}
    {e₇ : (gO 1 o h₃).view.ref.isScScratch = false} {e₈ : (aO o h₁).view.WordExact} {e₉ : (gO 1 o h₃).view.WordExact}
    {e₁₀ : DmaTarget.Typed .vmem (.dma qr) (.remote (Dev.tc n : Thread nD τ) (gO 1 o h₃) (.dma qs) e₇)}
    {kk : PUnit → Prog (TpuEff nD τ sig (Elt F) Λ₀ .tc) PUnit} {Q : PUnit → sProp 𝕄} :
    iprop(records m K ∗ S2 m c j ∗ Ow c ((1, j) :: l))
      ⊢ iprop(((S3 m c j ∗ Ow c l) -∗ at' c (kk ⟨⟩) Q)
          -∗ at' c (.op (.waitDma2 qi (bO o h₁) (gO 0 o h₂) e₁ e₂) fun _ =>
              .op (.load bM (rO o h₁).toLoadRect e₃) fun v =>
              .op (.load gM (rG 0 o h₂).toLoadRect e₃') fun w =>
              .op (.load aM (rO o h₁).toLoadRect e₄) fun _ =>
              .op (.store aM (rO o h₁) (pay v w) Finset.univ e₅ e₆) fun _ =>
              .op (.enqueueDma (aO o h₁) (.remote (Dev.tc n : Thread nD τ) (gO 1 o h₃) (.dma qs) e₇) (.dma qr) e₈ e₉ e₁₀) kk) Q) := by
  subst ho hi
  unfold S2 S3 Half Sent Got aAny
  iintro ⟨#HR, ⟨Hx, Hf, Hb, ⟨%f, Ha⟩, Ho, Hat, ⟨Hcs, Has, Har, Hcr⟩, ⟨Hts, Htr, Has', Har', Hcr'⟩, HL1⟩, HO⟩ Hk
  iapply (wait_own m K c (.inr (.inr (0, j))) rfl (src := bC j) (dst := gC 0 j) rfl (l := (1, j) :: l) hl) $$ [Hcr HO Har]
  · isplitr; · iexact HR
    isplitl [Hcr]; · iexact Hcr
    isplitl [HO]; · iexact HO
    iexact Har
  iintro ⟨HO, Har, Hg⟩
  ihave Hg := (show payOf m c false (.inr (.inr (.inr (0, j)))) ⊢ gP fullShare c 0 j (gV m c) from Entails.refl _) $$ Hg
  unfold bP gP aP
  iapply (wp_load 𝒱₀ (c : Thread nD τ) none Set.univ (m := bM) (on_b j)) $$ Hb; iintro Hb
  iapply (wp_load 𝒱₀ (c : Thread nD τ) none Set.univ (m := gM) (on_g 0 j)) $$ Hg; iintro Hg
  iapply (wp_load 𝒱₀ (c : Thread nD τ) none Set.univ (m := aM) (on_a j)) $$ Ha; iintro Ha
  iapply (wp_store 𝒱₀ (c : Thread nD τ) none Set.univ (m := aM) (r := rowR j) (Mk := Finset.univ) (into_a j)) $$ Ha; iintro Ha
  ihave Ha := (Entails.of_eq (stored_a m c j f _ (hpay _ _))) $$ Ha
  ihave Ha := (a_halves m c j).1 $$ Ha
  icases Ha with ⟨Hal, Har2⟩
  iapply (send_a m K c j hn hs hr (l := l)) $$ [Hal HL1 HO Hts Htr]
  · isplitr; · iexact HR
    isplitl [Hal]; · iexact Hal
    isplitl [HL1]; · iexact HL1
    isplitl [HO]; · iexact HO
    isplitl [Hts] <;> iassumption
  iintro ⟨Hcs', HO⟩
  iapply Hk
  isplitr [HO]
  · isplitl [Hx]; · iexact Hx
    isplitl [Hf]; · iexact Hf
    isplitl [Hb]; · iexact Hb
    isplitl [Har2]; · unfold aP; iexact Har2
    isplitl [Ho]; · iexact Ho
    isplitl [Hat]; · iexact Hat
    isplitl [Hcs Has Har Hg]
    · isplitl [Hcs]; · iexact Hcs
      isplitl [Has]; · iexact Has
      isplitl [Har]; · iexact Har
      iexact Hg
    isplitl [Hcs']; · iexact Hcs'
    isplitl [Has']; · iexact Has'
    isplitl [Har'] <;> iassumption
  iexact HO

set_option maxHeartbeats 2000000 in
/-- The third phase of a chunk: wait for the stage-1 receive, add what landed, store the result. -/
theorem phase_c (c : Dev nD) (j : Ch) {o : ℕ} (ho : o = 32 * j.val) {qi : DmaSem sig} (hi : qi = rcvQ 1 j)
    {pay : (S32x256.Idx → Elt F .bf16) → (S1x32x256.Idx → Elt F .bf16) → S32x256.Idx → Elt F .bf16}
    (hpay : ∀ v w, pay v w = addf (v : FVec F S32x256 .bf16) (shapeCast S32x256 (w : FVec F S1x32x256 .bf16) shapeCasts_S1x32x256_S32x256))
    {h₁ : ∀ a, (![o, 0] : Fin 2 → Nat) a + S32x256.size a ≤ S256x256.size a}
    {h₂ : ∀ a, (![1, o, 0] : Fin 3 → Nat) a + S1x32x256.size a ≤ S2x256x256.size a}
    {e₁ : (aO o h₁).view.WordExact} {e₂ : (gO 1 o h₂).view.WordExact} {e₃ : aM.view.LoadsAt (rO o h₁).toLoadRect}
    {e₃' : gM.view.LoadsAt (rG 1 o h₂).toLoadRect}
    {e₄ : oM.view.LoadsAt (rO o h₁).toLoadRect} {e₅ : (oM.access (rO o h₁)).Stores Finset.univ}
    {e₆ : (Finset.univ : Finset (rO o h₁).shape.Idx) = Finset.univ ∨ ∀ a, (rO o h₁).stride a = 1}
    {kk : PUnit → Prog (TpuEff nD τ sig (Elt F) Λ₀ .tc) PUnit} {Q : PUnit → sProp 𝕄} :
    iprop(records m K ∗ S3 m c j ∗ Ow c [])
      ⊢ iprop(((S4 m c j ∗ Ow c []) -∗ at' c (kk ⟨⟩) Q)
          -∗ at' c (.op (.waitDma2 qi (aO o h₁) (gO 1 o h₂) e₁ e₂) fun _ =>
              .op (.load aM (rO o h₁).toLoadRect e₃) fun v =>
              .op (.load gM (rG 1 o h₂).toLoadRect e₃') fun w =>
              .op (.load oM (rO o h₁).toLoadRect e₄) fun _ =>
              .op (.store oM (rO o h₁) (pay v w) Finset.univ e₅ e₆) kk) Q) := by
  subst ho hi
  unfold S3 S4 Sent Got oAny
  iintro ⟨#HR, ⟨Hx, Hf, Hb, Ha, ⟨%f, Ho⟩, Hat, Hg0, ⟨Hcs, Has, Har, Hcr⟩⟩, HO⟩ Hk
  iapply (wait_own m K c (.inr (.inr (1, j))) rfl (src := aC j) (dst := gC 1 j) rfl (l := []) (fun p hp => absurd hp List.not_mem_nil)) $$ [Hcr HO Har]
  · isplitr; · iexact HR
    isplitl [Hcr]; · iexact Hcr
    isplitl [HO]; · iexact HO
    iexact Har
  iintro ⟨HO, Har, Hg⟩
  ihave Hg := (show payOf m c false (.inr (.inr (.inr (1, j)))) ⊢ gP fullShare c 1 j (gV m c) from Entails.refl _) $$ Hg
  unfold gP aP oP
  iapply (wp_load 𝒱₀ (c : Thread nD τ) none Set.univ (m := aM) (on_a j)) $$ Ha; iintro Ha
  iapply (wp_load 𝒱₀ (c : Thread nD τ) none Set.univ (m := gM) (on_g 1 j)) $$ Hg; iintro Hg
  iapply (wp_load 𝒱₀ (c : Thread nD τ) none Set.univ (m := oM) (on_o j)) $$ Ho; iintro Ho
  iapply (wp_store 𝒱₀ (c : Thread nD τ) none Set.univ (m := oM) (r := rowR j) (Mk := Finset.univ) (into_o j)) $$ Ho; iintro Ho
  ihave Ho := (Entails.of_eq (stored_o m c j f _ (hpay _ _))) $$ Ho
  iapply Hk
  isplitr [HO]
  · isplitl [Hx]; · iexact Hx
    isplitl [Hf]; · iexact Hf
    isplitl [Hb]; · iexact Hb
    isplitl [Ha]; · iexact Ha
    isplitl [Ho]; · unfold oP; iexact Ho
    isplitl [Hat]; · iexact Hat
    isplitl [Hg0]; · iexact Hg0
    isplitl [Hcs]; · iexact Hcs
    isplitl [Has]; · iexact Has
    isplitl [Har]; · iexact Har
    iexact Hg
  iexact HO

set_option maxHeartbeats 2000000 in
/-- The last phase of a chunk: wait for both sends, which gives back the halves sent. -/
theorem phase_d (c : Dev nD) (j : Ch) {o : ℕ} (ho : o = 32 * j.val) {q₀ q₁ : DmaSem sig} (hq₀ : q₀ = sndQ 0 j) (hq₁ : q₁ = sndQ 1 j)
    {h₁ : ∀ a, (![o, 0] : Fin 2 → Nat) a + S32x256.size a ≤ S256x256.size a}
    {h₂ : ∀ a, (![0, o, 0] : Fin 3 → Nat) a + S1x32x256.size a ≤ S2x256x256.size a}
    {h₃ : ∀ a, (![1, o, 0] : Fin 3 → Nat) a + S1x32x256.size a ≤ S2x256x256.size a}
    {e₁ : (gO 0 o h₂).view.WordExact} {e₂ : (bO o h₁).view.WordExact} {e₃ : (gO 1 o h₃).view.WordExact} {e₄ : (aO o h₁).view.WordExact}
    {kk : PUnit → Prog (TpuEff nD τ sig (Elt F) Λ₀ .tc) PUnit} {Q : PUnit → sProp 𝕄} :
    iprop(records m K ∗ S4 m c j ∗ Ow c [])
      ⊢ iprop(((S5 m c j ∗ Ow c []) -∗ at' c (kk ⟨⟩) Q)
          -∗ at' c (.op (.waitDma2 q₀ (gO 0 o h₂) (bO o h₁) e₁ e₂) fun _ =>
              .op (.waitDma2 q₁ (gO 1 o h₃) (aO o h₁) e₃ e₄) kk) Q) := by
  subst ho hq₀ hq₁
  unfold S4 S5 Got Over
  iintro ⟨#HR, ⟨Hx, Hf, Hb, Ha, Ho, Hat, ⟨Hcs, Has, Har, Hg⟩, ⟨Hcs', Has', Har', Hg'⟩⟩, HO⟩ Hk
  iapply (wait_own m K c (.inr (.inl (0, j))) rfl (src := gC 0 j) (dst := bC j) rfl (l := []) (fun p hp => absurd hp List.not_mem_nil)) $$ [Hcs HO Has]
  · isplitr; · iexact HR
    isplitl [Hcs]; · iexact Hcs
    isplitl [HO]; · iexact HO
    iexact Has
  iintro ⟨HO, Has, Hbl⟩
  ihave Hbl := (show payOf m c false (.inr (.inr (.inl (0, j)))) ⊢ bP fullShare.left c j (bV m c) from Entails.refl _) $$ Hbl
  iapply (wait_own m K c (.inr (.inl (1, j))) rfl (src := gC 1 j) (dst := aC j) rfl (l := []) (fun p hp => absurd hp List.not_mem_nil)) $$ [Hcs' HO Has']
  · isplitr; · iexact HR
    isplitl [Hcs']; · iexact Hcs'
    isplitl [HO]; · iexact HO
    iexact Has'
  iintro ⟨HO, Has', Hal⟩
  ihave Hal := (show payOf m c false (.inr (.inr (.inl (1, j)))) ⊢ aP fullShare.left c j (aV m c) from Entails.refl _) $$ Hal
  iapply Hk
  isplitr [HO]
  · isplitl [Hx]; · iexact Hx
    isplitl [Hf]; · iexact Hf
    isplitl [Hb Hbl]
    · iapply (b_halves m c j).2
      isplitl [Hbl] <;> iassumption
    isplitl [Ha Hal]
    · iapply (a_halves m c j).2
      isplitl [Hal] <;> iassumption
    isplitl [Ho]; · iexact Ho
    isplitl [Hat]; · iexact Hat
    isplitl [Has Har Hg]
    · isplitl [Has]; · iexact Has
      isplitl [Har] <;> iassumption
    isplitl [Has']; · iexact Has'
    isplitl [Har'] <;> iassumption
  iexact HO

end Steps

end Cert.KernelIdeal.Hier
end
-- ==== Proof.KernelIdeal.Body.lean ====
/-
# Body: the kernel's program on one device, phase by phase

The program's effects in order: the copies in, the two barrier signals and the barrier wait, then the four phases, each
over the eight chunks.
-/
module

public import proofs.«01_k».proof.Proof.KernelIdeal.Steps

@[expose] public section

noncomputable section

namespace Cert.KernelIdeal.Hier

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Small facts the program's text needs -/

theorem toX {c : Dev nD} {s : St} {j : Ch} (h : AlongX s j) {n : ℕ} {hn : n < nD} (e : n = ((c.val % 2) + 2) - 2 * (c.val / 2)) :
    (⟨n, hn⟩ : Dev nD) = pr s j c := (Fin.ext e : (⟨n, hn⟩ : Dev nD) = xn c).trans (pr_x h c).symm
theorem toY {c : Dev nD} {s : St} {j : Ch} (h : ¬ AlongX s j) {n : ℕ} {hn : n < nD} (e : n = (2 * (c.val / 2) + 1) - (c.val % 2)) :
    (⟨n, hn⟩ : Dev nD) = pr s j c := (Fin.ext e : (⟨n, hn⟩ : Dev nD) = yn c).trans (pr_y h c).symm

/-- Rounding, then a cast to the same shape. -/
theorem round_cast (v : S32x256.Idx → Elt F .f32) :
    shapeCast S32x256 (truncf .bf16 (v : FVec F S32x256 .f32) bitsLt_bf16_f32) shapeCasts_S32x256_S32x256
      = truncf .bf16 (v : FVec F S32x256 .f32) bitsLt_bf16_f32 := shapeCast_self _ _
/-- Adding, then a cast to the same shape. -/
theorem sum_cast (v : S32x256.Idx → Elt F .bf16) (w : S1x32x256.Idx → Elt F .bf16) :
    shapeCast S32x256 (addf (v : FVec F S32x256 .bf16) (shapeCast S32x256 (w : FVec F S1x32x256 .bf16) shapeCasts_S1x32x256_S32x256)) shapeCasts_S32x256_S32x256
      = addf (v : FVec F S32x256 .bf16) (shapeCast S32x256 (w : FVec F S1x32x256 .bf16) shapeCasts_S1x32x256_S32x256) := shapeCast_self _ _

omit [FloatOps F] in
/-- A step with its hypotheses one by one. -/
theorem curry {R S O T O' P W : sProp 𝕄} (h : iprop(R ∗ S ∗ O) ⊢ iprop(((T ∗ O') -∗ P) -∗ W)) :
    R ⊢ iprop(S -∗ O -∗ (T -∗ O' -∗ P) -∗ W) := by
  iintro HR HS HO Hk
  iapply h $$ [HR HS HO]
  · isplitl [HR]; · iexact HR
    isplitl [HS] <;> iassumption
  iintro ⟨HT, HO⟩
  iapply Hk $$ HT HO
omit [FloatOps F] in
theorem curry1 {R S T P W : sProp 𝕄} (h : iprop(R ∗ S) ⊢ iprop((T -∗ P) -∗ W)) : R ⊢ iprop(S -∗ (T -∗ P) -∗ W) := by
  iintro HR HS Hk
  iapply h $$ [HR HS]
  · isplitl [HR] <;> iassumption
  iexact Hk

omit [FloatOps F] in
theorem swap (P P' : sProp 𝕄) : iprop(P ∗ P') ⊢ iprop(P' ∗ P) := by
  iintro ⟨H, H'⟩
  isplitl [H'] <;> iassumption
omit [FloatOps F] in
theorem bigSep_ch (Φ : Ch → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section Body
variable (m : (ℓ : Loc nD τ sig) → Buf (Elt F) ℓ) (K : Dev nD × CK → ℕ)

/-- What the barrier takes: the right to signal each neighbour, with the rows of the landing buffer the neighbour writes;
the device's place at its own barrier, and the two units its neighbours will have brought. -/
def Bar (c : Dev nD) : sProp 𝕄 :=
  iprop(dutyTok ER (barCell (xn c)) 0 true ∗ dutyTok ER (barCell (yn c)) 0 false ∗ atPos ER (barCell c) 0 ∅ 0
    ∗ cred (tallyAt (barCell c) () 2) ∗ barPayX (xn c) ∗ barPayY (yn c))

/-- The neighbours' rows, chunk by chunk. -/
theorem lands (c : Dev nD) : iprop(barPayX c ∗ barPayY c) ⊢ (bigSep Finset.univ fun j : Ch => iprop(Land c 0 j ∗ Land c 1 j) : sProp 𝕄) := by
  unfold barPayX barPayY
  rw [← bigSep_sep']
  refine bigSep_mono fun j _ => ?_
  unfold Land
  by_cases h : AlongX 0 j
  · rw [pr_x h, pr_y (s := 1) (j := j) (by revert h; revert j; decide), show sx j = 0 from by revert h; revert j; decide,
      show sy j = 1 from by revert h; revert j; decide]
    exact Entails.refl _
  · rw [pr_y h, pr_x (s := 1) (j := j) (by revert h; revert j; decide), show sx j = 1 from by revert h; revert j; decide,
      show sy j = 0 from by revert h; revert j; decide]
    exact swap _ _

omit [FloatOps F] in
theorem with_land (c : Dev nD) (j : Ch) : (S1 c j : sProp 𝕄) ⊢ iprop((Land c 0 j ∗ Land c 1 j) -∗ S1' c j) := by
  unfold S1'
  iintro H HL
  isplitl [H] <;> iassumption

set_option maxHeartbeats 4000000 in
set_option maxRecDepth 100000 in
/-- The program from the start of the kernel to its end. -/
theorem run_body (c : Dev nD) (Q : PUnit → sProp 𝕄) :
    iprop(records m K ∗ (bigSep Finset.univ fun j => S0 m c j) ∗ Bar c ∗ (∃ W, owes (c : Thread nD τ) (O₀ c) W))
      ⊢ iprop((((bigSep Finset.univ fun j => S5 m c j) ∗ atPos ER (barCell c) (0 + 1) ∅ 0 ∗ Ow c []) -∗ |={Set.univ}=> Q ⟨⟩)
        -∗ at' c (cc0_body xM (Memref.isWhole_whole _) oM (Memref.isWhole_whole _) fM (Memref.isWhole_whole _) bM (Memref.isWhole_whole _)
            aM (Memref.isWhole_whole _) gM (Memref.isWhole_whole _) cc0_scratch4 cc0_scratch5 cc0_scratch6) Q) := by
  simp only [cc0_body_eq_skeleton]
  unfold cc0_body_skel
  simp only [k0_part28_eq_skeleton]
  unfold k0_part28_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId]
  rw [bigSep_ch, bigSep_ch]
  unfold Bar
  iintro ⟨#HR, ⟨H0, H1, H2, H3, H4, H5, H6, H7⟩, ⟨Htx, Hty, Hat, Hc, Hlx, Hly⟩, ⟨%W, HO⟩⟩ Hk
  -- the copies in
  iapply (curry1 (enter m K c 0 rfl rfl)) $$ HR H0; iintro H0
  iapply (curry1 (enter m K c 4 rfl rfl)) $$ HR H4; iintro H4
  iapply (curry1 (enter m K c 1 rfl rfl)) $$ HR H1; iintro H1
  iapply (curry1 (enter m K c 5 rfl rfl)) $$ HR H5; iintro H5
  iapply (curry1 (enter m K c 2 rfl rfl)) $$ HR H2; iintro H2
  iapply (curry1 (enter m K c 6 rfl rfl)) $$ HR H6; iintro H6
  iapply (curry1 (enter m K c 3 rfl rfl)) $$ HR H3; iintro H3
  iapply (curry1 (enter m K c 7 rfl rfl)) $$ HR H7; iintro H7
  -- the barrier: a signal to each neighbour with the rows it writes, then the wait for both
  rw [show (⟨k0_dev1 c, k0_dev1_lt c⟩ : Dev nD) = xn c from Fin.ext (k0_dev1_eq c),
    show (⟨k0_dev2 c, k0_dev2_lt c⟩ : Dev nD) = yn c from Fin.ext (k0_dev2_eq c)]
  iapply (Rounds.wp_signal 𝒱₀ ER (Rd m) (c : Thread nD τ) none (dst := (xn c : Thread nD τ)) (κ := K (xn c, kBar)) (d := true)
      (by show true ∈ (Rd m).duties (cell (xn c) kBar) 0; rw [Rd_duties]; exact Finset.mem_univ _)
      (Rd_amount m (xn c) kBar true) () (O₁ c) rfl) $$ [HO Htx Hlx]
  · isplitr; · iapply (inv_at m K (xn c) kBar); iexact HR
    isplitl [HO]; · iexact HO
    isplitl [Htx]; · iexact Htx
    isplitl [Hlx]
    · iapply (show barPayX (xn c) ⊢ (Rd m).payload (barCell (xn c)) 0 true from Entails.of_eq (Rd_payload m (xn c) kBar true).symm); iexact Hlx
    iapply (reached_at m K (xn c) kBar); iexact HR
  iintro HO
  iapply (Rounds.wp_signal 𝒱₀ ER (Rd m) (c : Thread nD τ) none (dst := (yn c : Thread nD τ)) (κ := K (yn c, kBar)) (d := false)
      (by show false ∈ (Rd m).duties (cell (yn c) kBar) 0; rw [Rd_duties]; exact Finset.mem_univ _)
      (Rd_amount m (yn c) kBar false) () (owed c sends) rfl) $$ [HO Hty Hly]
  · isplitr; · iapply (inv_at m K (yn c) kBar); iexact HR
    isplitl [HO]; · iexact HO
    isplitl [Hty]; · iexact Hty
    isplitl [Hly]
    · iapply (show barPayY (yn c) ⊢ (Rd m).payload (barCell (yn c)) 0 false from Entails.of_eq (Rd_payload m (yn c) kBar false).symm); iexact Hly
    iapply (reached_at m K (yn c) kBar); iexact HR
  iintro HO
  iapply (Rounds.wp_wait_rest_token 𝒱₀ ER (Rd m) (c : Thread nD τ) none (κ := K (c, kBar)) (k' := 2)
      (wpE_semWait_eq 𝒱₀ (c : Thread nD τ) none Set.univ) (Set.mem_univ _) () (O := owed c sends) (W := W) (R := 0) (m := 0) (T := ∅)
      (Rd_expect_bar m c).symm) $$ [Hc HO Hat]
  · isplitr; · iapply (inv_at m K c kBar); iexact HR
    isplitl [Hc]; · iexact Hc
    isplitl [HO]; · iexact HO
    isplitr
    · iapply (mayWait_owed c (.reg barS) sends 1 (le_of_eq (lv_bar c ())) (fun p _ => Nat.lt_of_lt_of_le (Nat.lt_succ_self 1) (Nat.le_add_right 2 _)))
      iapply (levels_at m K); iexact HR
    iexact Hat
  iintro ⟨HO, Hat, -, Hp⟩
  ihave Hp := (Entails.of_eq (Rd_rest_bar m c)) $$ Hp
  ihave Hp := (lands (F := F) c) $$ Hp
  ihave Hp := (Entails.of_eq (bigSep_ch (F := F) fun j => iprop(Land c 0 j ∗ Land c 1 j))) $$ Hp
  icases Hp with ⟨L0, L1, L2, L3, L4, L5, L6, L7⟩
  ihave HO := (show iprop(owes (c : Thread nD τ) (owed c sends) (insert (SemLoc.reg barS, ()) W)) ⊢ Ow c sends from by
    unfold Ow; iintro H; iexists _; iexact H) $$ HO
  ihave H0 := (with_land c 0) $$ H0 L0
  ihave H1 := (with_land c 1) $$ H1 L1
  ihave H2 := (with_land c 2) $$ H2 L2
  ihave H3 := (with_land c 3) $$ H3 L3
  ihave H4 := (with_land c 4) $$ H4 L4
  ihave H5 := (with_land c 5) $$ H5 L5
  ihave H6 := (with_land c 6) $$ H6 L6
  ihave H7 := (with_land c 7) $$ H7 L7
  -- round and send at stage 0
  iapply (curry (phase_a m K c 0 rfl rfl rfl rfl (toX (by decide) (k0_dev3_eq c)) round_cast)) $$ HR H0 HO; iintro H0 HO
  iapply (curry (phase_a m K c 4 rfl rfl rfl rfl (toY (by decide) (k0_dev4_eq c)) round_cast)) $$ HR H4 HO; iintro H4 HO
  iapply (curry (phase_a m K c 1 rfl rfl rfl rfl (toX (by decide) (k0_dev5_eq c)) round_cast)) $$ HR H1 HO; iintro H1 HO
  iapply (curry (phase_a m K c 5 rfl rfl rfl rfl (toY (by decide) (k0_dev6_eq c)) round_cast)) $$ HR H5 HO; iintro H5 HO
  iapply (curry (phase_a m K c 2 rfl rfl rfl rfl (toX (by decide) (k0_dev7_eq c)) round_cast)) $$ HR H2 HO; iintro H2 HO
  iapply (curry (phase_a m K c 6 rfl rfl rfl rfl (toY (by decide) (k0_dev8_eq c)) round_cast)) $$ HR H6 HO; iintro H6 HO
  iapply (curry (phase_a m K c 3 rfl rfl rfl rfl (toX (by decide) (k0_dev9_eq c)) round_cast)) $$ HR H3 HO; iintro H3 HO
  iapply (curry (phase_a m K c 7 rfl rfl rfl rfl (toY (by decide) (k0_dev10_eq c)) round_cast)) $$ HR H7 HO; iintro H7 HO
  -- add and send at stage 1
  iapply (curry (phase_b m K c 0 (by decide) rfl rfl rfl rfl (toY (by decide) (k0_dev11_eq c)) sum_cast)) $$ HR H0 HO; iintro H0 HO
  iapply (curry (phase_b m K c 4 (by decide) rfl rfl rfl rfl (toX (by decide) (k0_dev12_eq c)) sum_cast)) $$ HR H4 HO; iintro H4 HO
  iapply (curry (phase_b m K c 1 (by decide) rfl rfl rfl rfl (toY (by decide) (k0_dev13_eq c)) sum_cast)) $$ HR H1 HO; iintro H1 HO
  iapply (curry (phase_b m K c 5 (by decide) rfl rfl rfl rfl (toX (by decide) (k0_dev14_eq c)) sum_cast)) $$ HR H5 HO; iintro H5 HO
  iapply (curry (phase_b m K c 2 (by decide) rfl rfl rfl rfl (toY (by decide) (k0_dev15_eq c)) sum_cast)) $$ HR H2 HO; iintro H2 HO
  iapply (curry (phase_b m K c 6 (by decide) rfl rfl rfl rfl (toX (by decide) (k0_dev16_eq c)) sum_cast)) $$ HR H6 HO; iintro H6 HO
  iapply (curry (phase_b m K c 3 (by decide) rfl rfl rfl rfl (toY (by decide) (k0_dev17_eq c)) sum_cast)) $$ HR H3 HO; iintro H3 HO
  iapply (curry (phase_b m K c 7 (by decide) rfl rfl rfl rfl (toX (by decide) (k0_dev18_eq c)) sum_cast)) $$ HR H7 HO; iintro H7 HO
  -- add and store the result
  iapply (curry (phase_c m K c 0 rfl rfl fun _ _ => rfl)) $$ HR H0 HO; iintro H0 HO
  iapply (curry (phase_c m K c 4 rfl rfl fun _ _ => rfl)) $$ HR H4 HO; iintro H4 HO
  iapply (curry (phase_c m K c 1 rfl rfl fun _ _ => rfl)) $$ HR H1 HO; iintro H1 HO
  iapply (curry (phase_c m K c 5 rfl rfl fun _ _ => rfl)) $$ HR H5 HO; iintro H5 HO
  iapply (curry (phase_c m K c 2 rfl rfl fun _ _ => rfl)) $$ HR H2 HO; iintro H2 HO
  iapply (curry (phase_c m K c 6 rfl rfl fun _ _ => rfl)) $$ HR H6 HO; iintro H6 HO
  iapply (curry (phase_c m K c 3 rfl rfl fun _ _ => rfl)) $$ HR H3 HO; iintro H3 HO
  iapply (curry (phase_c m K c 7 rfl rfl fun _ _ => rfl)) $$ HR H7 HO; iintro H7 HO
  -- the sends' own waits
  iapply (curry (phase_d m K c 0 rfl rfl rfl)) $$ HR H0 HO; iintro H0 HO
  iapply (curry (phase_d m K c 4 rfl rfl rfl)) $$ HR H4 HO; iintro H4 HO
  iapply (curry (phase_d m K c 1 rfl rfl rfl)) $$ HR H1 HO; iintro H1 HO
  iapply (curry (phase_d m K c 5 rfl rfl rfl)) $$ HR H5 HO; iintro H5 HO
  iapply (curry (phase_d m K c 2 rfl rfl rfl)) $$ HR H2 HO; iintro H2 HO
  iapply (curry (phase_d m K c 6 rfl rfl rfl)) $$ HR H6 HO; iintro H6 HO
  iapply (curry (phase_d m K c 3 rfl rfl rfl)) $$ HR H3 HO; iintro H3 HO
  iapply (curry (phase_d m K c 7 rfl rfl rfl)) $$ HR H7 HO; iintro H7 HO
  unfold at'
  rw [wp_ret]
  iapply Hk
  isplitr [Hat HO]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hat] <;> iassumption

end Body

end Cert.KernelIdeal.Hier
end
-- ==== Proof.KernelIdeal.Obligation.lean ====
/-
# Obligation: the kernel's body against the pipeline's contract

What a device holds when its kernel is entered and when it is left, and that the program of `Body` leads from the one to
the other: the buffers are cut into chunks on the way in and put together on the way out, and every semaphore's record
closes, its counter back at zero.
-/
module

public import proofs.«01_k».proof.Proof.KernelIdeal.Body

@[expose] public section

noncomputable section

namespace Cert.KernelIdeal.Hier

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over chunks, stages and semaphores -/

omit [FloatOps F] in
/-- Over stages and chunks: stage 0's chunks and stage 1's. -/
theorem two_stages (Φ : St × Ch → sProp 𝕄) :
    bigSep Finset.univ Φ = iprop((bigSep Finset.univ fun j => Φ (0, j)) ∗ bigSep Finset.univ fun j => Φ (1, j)) := by
  rw [bigSep_univ_prod, bigSep_univ_eq_bigSepL [(0 : St), 1] (by decide) (by decide), bigSepL_cons_cons, bigSepL_singleton]
  rfl

omit [FloatOps F] in
/-- Over the kernel's own semaphores, kind by kind. -/
theorem own_split (Φ : OK → sProp 𝕄) :
    bigSep Finset.univ Φ = iprop((bigSep Finset.univ fun j => Φ (.inl j)) ∗ (bigSep Finset.univ fun t => Φ (.inr (.inl t)))
      ∗ bigSep Finset.univ fun t => Φ (.inr (.inr t))) :=
  (BI.bigSep_univ_sum Φ).trans (congrArg (fun P => iprop((bigSep Finset.univ fun j => Φ (.inl j)) ∗ P)) (BI.bigSep_univ_sum fun t => Φ (.inr t)))

omit [FloatOps F] in
/-- With the barrier. -/
theorem all_split (Φ : CK → sProp 𝕄) : bigSep Finset.univ Φ = iprop(Φ kBar ∗ bigSep Finset.univ fun k => Φ (.inr k)) :=
  (BI.bigSep_univ_sum Φ).trans (congrArg (fun P => iprop(P ∗ bigSep Finset.univ fun k => Φ (.inr k)))
    (BI.bigSep_univ_of_subsingleton () (Φ := fun u => Φ (.inl u))))

omit [FloatOps F] in
/-- What every member proves with something that can be copied, all of them prove with it. -/
theorem bigSep_given {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono fun i _ => h i))

section Obligation
variable (m : (ℓ : Loc nD τ sig) → Buf (Elt F) ℓ) (ρ : Dev nD → PrngReg)

/-! ## The kernel's entry and exit -/

/-- The rights and places a device holds for chunk `j`. -/
def Lin (c : Dev nD) (j : Ch) : sProp 𝕄 :=
  iprop(dutyTok ER (inCell c j) 0 false ∗ atPos ER (inCell c j) 0 ∅ 0 ∗ Half c 0 j ∗ Half c 1 j)
/-- For the barrier. -/
def BarLin (c : Dev nD) : sProp 𝕄 :=
  iprop(dutyTok ER (barCell (xn c)) 0 true ∗ dutyTok ER (barCell (yn c)) 0 false ∗ atPos ER (barCell c) 0 ∅ 0
    ∗ cred (tallyAt (barCell c) () 2))
/-- The input block, whole. -/
def xAll (c : Dev nD) : sProp 𝕄 := ((c : Thread nD τ).loc main_arg0) ↦{fullShare} m ((c : Thread nD τ).loc main_arg0)

/-- What a device starts with besides the kernel's buffers. -/
def start (c : Dev nD) : sProp 𝕄 :=
  iprop((∃ K, records m K) ∗ BarLin c ∗ (bigSep Finset.univ fun j => Lin c j) ∗ xAll m c)
/-- At the kernel's entry. -/
def Φ₀ (c : Dev nD) : sProp 𝕄 := iprop(start m c ∗ Pipeline.scopedRest cfg0.spec c)
/-- At its exit: the input block as it was, every counter at zero, the buffers at some contents. -/
def Φ₁ (c : Dev nD) : sProp 𝕄 :=
  iprop(xAll m c ∗ semVal (barCell c) 0 ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oV m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The output window's staging buffer, holding `X`. -/
abbrev stg (c : Dev nD) (X : Buf (Elt F) ((c : Thread nD τ).loc cc0_stg0_0)) : sProp 𝕄 :=
  iprop(∃ f : Buf (Elt F) ((c : Thread nD τ).loc cc0_stg0_0), ⌜f = X⌝ ∗ (((c : Thread nD τ).loc cc0_stg0_0) ↦{fullShare} f))

/-! ## Into chunks -/

theorem barPayX_of {c d : Dev nD} (h : xn d = c) :
    (barPayX d : sProp 𝕄) = bigSep Finset.univ fun j : Ch => iprop(∃ f, gP fullShare c (sx j) j f) := by subst h; rfl
theorem barPayY_of {c d : Dev nD} (h : yn d = c) :
    (barPayY d : sProp 𝕄) = bigSep Finset.univ fun j : Ch => iprop(∃ f, gP fullShare c (sy j) j f) := by subst h; rfl

/-- A device's landing buffer: the rows its neighbour along x writes and those its neighbour along y writes. -/
theorem landing (c : Dev nD) :
    (bigSep Finset.univ fun t : St × Ch => iprop(∃ f, gP fullShare c t.1 t.2 f) : sProp 𝕄) ⊢ iprop(barPayX (xn c) ∗ barPayY (yn c)) := by
  rw [barPayX_of (xn_xn c), barPayY_of (yn_yn c), two_stages, ← bigSep_sep', ← bigSep_sep']
  refine bigSep_mono fun j _ => ?_
  by_cases h : AlongX 0 j
  · rw [show sx j = 0 from by revert h; revert j; decide, show sy j = 1 from by revert h; revert j; decide]
    exact Entails.refl _
  · rw [show sx j = 1 from by revert h; revert j; decide, show sy j = 0 from by revert h; revert j; decide]
    exact swap _ _

/-- The chunks' first states, conjunct by conjunct. -/
theorem S0_all (c : Dev nD) :
    (bigSep Finset.univ fun j => S0 m c j : sProp 𝕄)
      = iprop((bigSep Finset.univ fun j => xP m fullShare c j) ∗ (bigSep Finset.univ fun j => fAny c j) ∗ (bigSep Finset.univ fun j => bAny c j)
        ∗ (bigSep Finset.univ fun j => aAny c j) ∗ (bigSep Finset.univ fun j => oAny c j) ∗ bigSep Finset.univ fun j => Lin c j) := by
  show (bigSep Finset.univ fun j => iprop(xP m fullShare c j ∗ fAny c j ∗ bAny c j ∗ aAny c j ∗ oAny c j ∗ Lin c j) : sProp 𝕄) = _
  rw [bigSep_sep', bigSep_sep', bigSep_sep', bigSep_sep', bigSep_sep']

theorem f_some (c : Dev nD) (j : Ch) (f) : fP fullShare c j f ⊢ (fAny c j : sProp 𝕄) := by
  unfold fAny; iintro H; iexists f; iexact H
theorem b_some (c : Dev nD) (j : Ch) (f) : bP fullShare c j f ⊢ (bAny c j : sProp 𝕄) := by
  unfold bAny; iintro H; iexists f; iexact H
theorem a_some (c : Dev nD) (j : Ch) (f) : aP fullShare c j f ⊢ (aAny c j : sProp 𝕄) := by
  unfold aAny; iintro H; iexists f; iexact H
theorem o_some (c : Dev nD) (j : Ch) (f) : oP fullShare c j f ⊢ (oAny c j : sProp 𝕄) := by
  unfold oAny; iintro H; iexists f; iexact H
theorem g_some (c : Dev nD) (t : St × Ch) (f) : gP fullShare c t.1 t.2 f ⊢ (iprop(∃ f, gP fullShare c t.1 t.2 f) : sProp 𝕄) := by
  iintro H; iexists f; iexact H

theorem cut_f (c : Dev nD) :
    iprop(∃ f : Buf (Elt F) ((c : Thread nD τ).loc cc0_scratch0), ((c : Thread nD τ).loc cc0_scratch0) ↦{fullShare} f)
      ⊢ (bigSep Finset.univ fun j => fAny c j : sProp 𝕄) := by
  iintro ⟨%f, H⟩
  ihave H := ((Entails.of_eq (f_split fullShare c f)).trans (bigSep_mono fun j _ => f_some c j f)) $$ H
  iexact H
theorem cut_b (c : Dev nD) :
    iprop(∃ f : Buf (Elt F) ((c : Thread nD τ).loc cc0_scratch1), ((c : Thread nD τ).loc cc0_scratch1) ↦{fullShare} f)
      ⊢ (bigSep Finset.univ fun j => bAny c j : sProp 𝕄) := by
  iintro ⟨%f, H⟩
  ihave H := ((Entails.of_eq (b_split fullShare c f)).trans (bigSep_mono fun j _ => b_some c j f)) $$ H
  iexact H
theorem cut_a (c : Dev nD) :
    iprop(∃ f : Buf (Elt F) ((c : Thread nD τ).loc cc0_scratch2), ((c : Thread nD τ).loc cc0_scratch2) ↦{fullShare} f)
      ⊢ (bigSep Finset.univ fun j => aAny c j : sProp 𝕄) := by
  iintro ⟨%f, H⟩
  ihave H := ((Entails.of_eq (a_split fullShare c f)).trans (bigSep_mono fun j _ => a_some c j f)) $$ H
  iexact H
theorem cut_o (c : Dev nD) :
    iprop(∃ f : Buf (Elt F) ((c : Thread nD τ).loc cc0_stg0_0), ((c : Thread nD τ).loc cc0_stg0_0) ↦{fullShare} f)
      ⊢ (bigSep Finset.univ fun j => oAny c j : sProp 𝕄) := by
  iintro ⟨%f, H⟩
  ihave H := ((Entails.of_eq (o_split fullShare c f)).trans (bigSep_mono fun j _ => o_some c j f)) $$ H
  iexact H
theorem cut_g (c : Dev nD) :
    iprop(∃ f : Buf (Elt F) ((c : Thread nD τ).loc cc0_scratch3), ((c : Thread nD τ).loc cc0_scratch3) ↦{fullShare} f)
      ⊢ (bigSep Finset.univ fun t : St × Ch => iprop(∃ f, gP fullShare c t.1 t.2 f) : sProp 𝕄) := by
  iintro ⟨%f, H⟩
  ihave H := ((Entails.of_eq (g_split fullShare c f)).trans (bigSep_mono fun t _ => g_some c t f)) $$ H
  iexact H

/-- The kernel's buffers and the device's rights, cut into chunks. -/
theorem cut (c : Dev nD) :
    iprop(BarLin c ∗ (bigSep Finset.univ fun j => Lin c j) ∗ xAll m c ∗ Pipeline.scopedRest cfg0.spec c
        ∗ (∃ f : Buf (Elt F) ((c : Thread nD τ).loc cc0_stg0_0), ((c : Thread nD τ).loc cc0_stg0_0) ↦{fullShare} f))
      ⊢ (iprop((bigSep Finset.univ fun j => S0 m c j) ∗ Bar c) : sProp 𝕄) := by
  rw [scopedRest0_eq, S0_all]
  unfold BarLin Bar xAll
  iintro ⟨⟨Htx, Hty, Hat, Hc⟩, HL, Hx, ⟨Hf, Hb, Ha, Hg⟩, Ho⟩
  ihave Hx := (Entails.of_eq (x_split m fullShare c)) $$ Hx
  ihave Hf := (cut_f c) $$ Hf
  ihave Hb := (cut_b c) $$ Hb
  ihave Ha := (cut_a c) $$ Ha
  ihave Ho := (cut_o c) $$ Ho
  ihave Hg := (cut_g c) $$ Hg
  ihave Hg := (landing c) $$ Hg
  icases Hg with ⟨HgX, HgY⟩
  isplitl [HL Hx Hf Hb Ha Ho]
  · isplitl [Hx]; · iexact Hx
    isplitl [Hf]; · iexact Hf
    isplitl [Hb]; · iexact Hb
    isplitl [Ha]; · iexact Ha
    isplitl [Ho]; · iexact Ho
    iexact HL
  · isplitl [Htx]; · iexact Htx
    isplitl [Hty]; · iexact Hty
    isplitl [Hat]; · iexact Hat
    isplitl [Hc]; · iexact Hc
    isplitl [HgX] <;> iassumption

/-! ## The records close -/

variable (K : Dev nD × CK → ℕ)

/-- A semaphore whose one round is over: its counter is at zero. -/
theorem close_cell (c : Dev nD) (k : CK) :
    iprop(records m K ∗ atPos ER (cell c k) (0 + 1) ∅ 0) ⊢ (|={Set.univ}=> semVal (cell c k) 0 : sProp 𝕄) := by
  iintro ⟨#HR, Hat⟩
  imod (Rounds.cell_close ER (Rd m) (Set.mem_univ (K (c, k))) (fun h => h) (R := 0 + 1) (Rd_later m (cell c k))) $$ [Hat] with Hz
  · isplitr; · iapply (inv_at m K c k); iexact HR
    iexact Hat
  imodintro
  iexact Hz

/-- A stage of a chunk when all is done. -/
def Done (c : Dev nD) (s : St) (j : Ch) : sProp 𝕄 :=
  iprop(semVal (sndCell c s j) 0 ∗ semVal (rcvCell c s j) 0 ∗ gP fullShare c s j (gV m c))
/-- A chunk when all is done: its rows everywhere, its semaphores at zero. -/
def E (c : Dev nD) (j : Ch) : sProp 𝕄 :=
  iprop(xP m fullShare c j ∗ fP fullShare c j (fV m c) ∗ bP fullShare c j (bV m c) ∗ aP fullShare c j (aV m c) ∗ oP fullShare c j (oV m c)
    ∗ semVal (inCell c j) 0 ∗ Done m c 0 j ∗ Done m c 1 j)

theorem close_half (c : Dev nD) (s : St) (j : Ch) : iprop(records m K ∗ Over m c s j) ⊢ |={Set.univ}=> Done m c s j := by
  unfold Over Done
  iintro ⟨#HR, Hs, Hr, Hg⟩
  imod (show iprop(records m K ∗ atPos ER (sndCell c s j) (0 + 1) ∅ 0) ⊢ (|={Set.univ}=> semVal (sndCell c s j) 0 : sProp 𝕄)
    from close_cell m K c (kSnd s j)) $$ [Hs] with Hs
  · isplitr; · iexact HR
    iexact Hs
  imod (show iprop(records m K ∗ atPos ER (rcvCell c s j) (0 + 1) ∅ 0) ⊢ (|={Set.univ}=> semVal (rcvCell c s j) 0 : sProp 𝕄)
    from close_cell m K c (kRcv s j)) $$ [Hr] with Hr
  · isplitr; · iexact HR
    iexact Hr
  imodintro
  isplitl [Hs]; · iexact Hs
  isplitl [Hr] <;> iassumption

theorem close_chunk (c : Dev nD) (j : Ch) : iprop(records m K ∗ S5 m c j) ⊢ |={Set.univ}=> E m c j := by
  unfold S5 E
  iintro ⟨#HR, Hx, Hf, Hb, Ha, Ho, Hi, H0, H1⟩
  imod (show iprop(records m K ∗ atPos ER (inCell c j) (0 + 1) ∅ 0) ⊢ (|={Set.univ}=> semVal (inCell c j) 0 : sProp 𝕄)
    from close_cell m K c (kIn j)) $$ [Hi] with Hi
  · isplitr; · iexact HR
    iexact Hi
  imod (close_half m K c 0 j) $$ [H0] with H0
  · isplitr; · iexact HR
    iexact H0
  imod (close_half m K c 1 j) $$ [H1] with H1
  · isplitr; · iexact HR
    iexact H1
  imodintro
  isplitl [Hx]; · iexact Hx
  isplitl [Hf]; · iexact Hf
  isplitl [Hb]; · iexact Hb
  isplitl [Ha]; · iexact Ha
  isplitl [Ho]; · iexact Ho
  isplitl [Hi]; · iexact Hi
  isplitl [H0] <;> iassumption

theorem close_all (c : Dev nD) :
    iprop(records m K ∗ bigSep Finset.univ fun j => S5 m c j) ⊢ |={Set.univ}=> bigSep Finset.univ fun j => E m c j :=
  (bigSep_given fun j => close_chunk m K c j).trans (bigSep_fupd _ _)

/-! ## Together again -/

/-- The chunks' last states, conjunct by conjunct. -/
theorem E_all (c : Dev nD) :
    (bigSep Finset.univ fun j => E m c j : sProp 𝕄)
      = iprop((bigSep Finset.univ fun j => xP m fullShare c j) ∗ (bigSep Finset.univ fun j => fP fullShare c j (fV m c))
        ∗ (bigSep Finset.univ fun j => bP fullShare c j (bV m c)) ∗ (bigSep Finset.univ fun j => aP fullShare c j (aV m c))
        ∗ (bigSep Finset.univ fun j => oP fullShare c j (oV m c)) ∗ (bigSep Finset.univ fun j => semVal (inCell c j) 0)
        ∗ ((bigSep Finset.univ fun j => semVal (sndCell c 0 j) 0) ∗ (bigSep Finset.univ fun j => semVal (rcvCell c 0 j) 0)
          ∗ bigSep Finset.univ fun j => gP fullShare c 0 j (gV m c))
        ∗ ((bigSep Finset.univ fun j => semVal (sndCell c 1 j) 0) ∗ (bigSep Finset.univ fun j => semVal (rcvCell c 1 j) 0)
          ∗ bigSep Finset.univ fun j => gP fullShare c 1 j (gV m c))) := by
  unfold E Done
  simp only [bigSep_sep']

theorem own_eq (c : Dev nD) :
    (Pipeline.ownSems0 (Ix := Unit) (Name := ℕ) (U := UU) (Lvl := ℕ) (Val := Elt F) (τ := τ) osem c : sProp 𝕄)
      = iprop((bigSep Finset.univ fun j => semVal (inCell c j) 0)
        ∗ ((bigSep Finset.univ fun j => semVal (sndCell c 0 j) 0) ∗ bigSep Finset.univ fun j => semVal (sndCell c 1 j) 0)
        ∗ ((bigSep Finset.univ fun j => semVal (rcvCell c 0 j) 0) ∗ bigSep Finset.univ fun j => semVal (rcvCell c 1 j) 0)) := by
  unfold Pipeline.ownSems0
  rw [own_split, two_stages, two_stages]
  rfl

theorem join (c : Dev nD) :
    (bigSep Finset.univ fun j => E m c j : sProp 𝕄)
      ⊢ iprop(xAll m c ∗ Pipeline.ownSems0 osem c ∗ Pipeline.scopedRest cfg0.spec c ∗ stg c (oV m c)) := by
  rw [E_all, own_eq, scopedRest0_eq]
  unfold xAll
  iintro ⟨Hx, Hf, Hb, Ha, Ho, Hi, ⟨Hs0, Hr0, Hg0⟩, Hs1, Hr1, Hg1⟩
  isplitl [Hx]; · rw [x_split]; iexact Hx
  isplitl [Hi Hs0 Hr0 Hs1 Hr1]
  · isplitl [Hi]; · iexact Hi
    isplitl [Hs0 Hs1]
    · isplitl [Hs0] <;> iassumption
    · isplitl [Hr0] <;> iassumption
  isplitl [Hf Hb Ha Hg0 Hg1]
  · isplitl [Hf]; · iexists (fV m c); rw [f_split]; iexact Hf
    isplitl [Hb]; · iexists (bV m c); rw [b_split]; iexact Hb
    isplitl [Ha]; · iexists (aV m c); rw [a_split]; iexact Ha
    iexists (gV m c); rw [g_split, two_stages]
    isplitl [Hg0] <;> iassumption
  iexists (oV m c)
  isplitr; · (ipureintro; rfl)
  rw [o_split]; iexact Ho

/-! ## The obligation -/

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (oV m c))

theorem body_sound (c : Dev nD) :
    bodyPre m ρ c ⊢ at' c (cc0_body xM (Memref.isWhole_whole _) oM (Memref.isWhole_whole _) fM (Memref.isWhole_whole _) bM (Memref.isWhole_whole _)
      aM (Memref.isWhole_whole _) gM (Memref.isWhole_whole _) cc0_scratch4 cc0_scratch5 cc0_scratch6) (fun _ => bodyPost m ρ c) := by
  unfold bodyPre Φ₀ start Dat.owesAt Pipeline.owesWithin
  rw [show (dats m ρ 0 c).owed t0_0.castSucc = O₀ c from rfl]
  iintro ⟨⟨⟨⟨%K, #HR⟩, HB, HL, Hx⟩, Hrest⟩, ⟨%W, %hW, HO⟩, ⟨%d, %f, %hf, Ho⟩⟩
  ihave H := (cut m c) $$ [HB HL Hx Hrest Ho]
  · isplitl [HB]; · iexact HB
    isplitl [HL]; · iexact HL
    isplitl [Hx]; · iexact Hx
    isplitl [Hrest]; · iexact Hrest
    iexists f; iexact Ho
  icases H with ⟨HS, HB⟩
  iapply (run_body m K c fun _ => bodyPost m ρ c) $$ [HS HB HO]
  · isplitr; · iexact HR
    isplitl [HS]; · iexact HS
    isplitl [HB]; · iexact HB
    iexists W; iexact HO
  iintro ⟨HS, Hat, HO⟩
  imod (close_all m K c) $$ [HS] with HE
  · isplitr; · iexact HR
    iexact HS
  imod (show iprop(records m K ∗ atPos ER (barCell c) (0 + 1) ∅ 0) ⊢ (|={Set.univ}=> semVal (barCell c) 0 : sProp 𝕄)
    from close_cell m K c kBar) $$ [Hat] with Hz
  · isplitr; · iexact HR
    iexact Hat
  ihave HE := (join m c) $$ HE
  icases HE with ⟨Hx, Hown, Hrest, Ho⟩
  imodintro
  unfold bodyPost Φ₁ Ow Dat.owesAt Pipeline.owesWithin
  rw [show (dats m ρ 0 c).owed t0_0.succ = 0 from rfl, show owed c [] = 0 from rfl]
  isplitl [Hx Hz Hown Hrest]
  · isplitl [Hx]; · iexact Hx
    isplitl [Hz]; · iexact Hz
    isplitl [Hown] <;> iassumption
  isplitl [HO]
  · icases HO with ⟨%W', HO⟩
    iexists W'
    isplitr; · ipureintro; exact fun _ _ => Or.inl trivial
    iexact HO
  iexact Ho

set_option maxRecDepth 8000 in
/-- The pipeline's obligation on the body, on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

end Obligation

end Cert.KernelIdeal.Hier
end
-- ==== Proof.KernelIdeal.Launch.lean ====
/-
# Launch: from the memory at launch to every device's first state, and the run

The launch mints the tokens and places of all the semaphores, turns every counter at zero into a semaphore's record,
deals each token to the device that pays its duty, and gives each device the credits its neighbours owe it. With the
body's obligation this makes the run: every execution ends, the result array holds the sum, the input array is as it
was, and every counter is at zero.
-/
module

public import proofs.«01_k».proof.Proof.KernelIdeal.Obligation
public import Idealize.ShloMosaic.Lib.Pipeline.CollectiveSegs

@[expose] public section

noncomputable section

namespace Cert.KernelIdeal.Hier

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores and the tokens minted -/

theorem csem_injective : Function.Injective csem := fun k k' h =>
  Option.some.inj ((kind_csem k).symm.trans ((congrArg kind h).trans (kind_csem k')))

theorem osem_injective : Function.Injective osem := fun k k' h => by
  have := csem_injective (show csem (.inr k) = csem (.inr k') from h)
  exact Sum.inr.inj this

theorem ownSemFacts : Pipeline.OwnSemFacts cfg0.spec osem where
  isScoped
    | .inl j => by revert j; decide
    | .inr (.inl (s, j)) => by revert s j; decide
    | .inr (.inr (s, j)) => by revert s j; decide
  inj := osem_injective
  disj k w s h := by
    have h1 := kind_csem (.inr k)
    rw [show csem (.inr k) = osem k from rfl, h,
      show kind (.dma ((cfg0.spec w).sem s)) = none from by fin_cases w; fin_cases s; decide] at h1
    cases h1

theorem cell_injective : Function.Injective (fun p : Dev nD × CK => cell p.1 p.2) := by
  rintro ⟨c, k⟩ ⟨c', k'⟩ h
  have h1 : c = c' := congrArg (fun g : GSem nD τ sig => g.1.1) h
  have h2 : k = k' := csem_injective (congrArg Prod.snd h)
  rw [h1, h2]
/-- Every device's semaphores. -/
def allCells : Finset (GSem nD τ sig) := Finset.univ.map ⟨fun p : Dev nD × CK => cell p.1 p.2, cell_injective⟩

/-- Which token: the barrier's second, or a semaphore's first. -/
abbrev TK : Type := Unit ⊕ CK
def tokOf (p : Dev nD × TK) : GSem nD τ sig × ℕ × Bool := match p.2 with
  | .inl _ => (cell p.1 kBar, 0, true)
  | .inr k => (cell p.1 k, 0, false)
theorem tokOf_injective : Function.Injective tokOf := by
  rintro ⟨c, k⟩ ⟨c', k'⟩ h
  rcases k with u | k <;> rcases k' with u' | k'
  · have h1 : cell c kBar = cell c' kBar := congrArg Prod.fst h
    have h2 := cell_injective (a₁ := (c, kBar)) (a₂ := (c', kBar)) h1
    rw [(Prod.mk.inj h2).1]
  · exact absurd (congrArg (fun x : GSem nD τ sig × ℕ × Bool => x.2.2) h) (by intro h'; cases h')
  · exact absurd (congrArg (fun x : GSem nD τ sig × ℕ × Bool => x.2.2) h) (by intro h'; cases h')
  · have h1 : cell c k = cell c' k' := congrArg Prod.fst h
    have h2 := cell_injective (a₁ := (c, k)) (a₂ := (c', k')) h1
    rw [(Prod.mk.inj h2).1, (Prod.mk.inj h2).2]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

section Launch
variable (m : (ℓ : Loc nD τ sig) → Buf (Elt F) ℓ) (ρ : Dev nD → PrngReg)

/-- The tokens of device `c`'s own semaphores. -/
def toks (c : Dev nD) : sProp 𝕄 :=
  iprop(dutyTok ER (barCell c) 0 true ∗ bigSep Finset.univ fun k : CK => dutyTok ER (cell c k) 0 false)

/-- What the launch deals device `c`. -/
def G (c : Dev nD) : sProp 𝕄 :=
  iprop((bigSep Finset.univ fun k : CK => roundState ER (Rd m) (cell c k) 0)
    ∗ ((bigSep Finset.univ fun k : CK => atPos ER (cell c k) 0 ∅ 0) ∗ bigSep Finset.univ fun k : CK => reached ER (cell c k) 0) ∗ toks c)

theorem fund : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [BI.bigSep_univ_sum, BI.bigSep_univ_of_subsingleton ()]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The records -/

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters at zero, the barrier's among them. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [unscoped_eq, all_split]
  exact swap _ _

theorem open_records (c : Dev nD) :
    iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ ((bigSep Finset.univ fun k : CK => atPos ER (cell c k) 0 ∅ 0) ∗ bigSep Finset.univ fun k : CK => reached ER (cell c k) 0) ∗ toks c) := by
  unfold G
  iintro ⟨Hos, Hus, Hst, Hat, Htok⟩
  ihave Hv := (counters (F := F) c) $$ [Hos Hus]
  · isplitl [Hos] <;> iassumption
  imod (open_records m c) $$ [Hv Hst] with Hinv
  · isplitl [Hv] <;> iassumption
  imodintro
  isplitl [Hinv]; · iexact Hinv
  isplitl [Hat]; · iexact Hat
  iexact Htok

/-! ## The tokens dealt to their payers -/

/-- The tokens of the duties device `c` pays. -/
def payToks (c : Dev nD) : sProp 𝕄 :=
  iprop(dutyTok ER (barCell (xn c)) 0 true ∗ dutyTok ER (barCell (yn c)) 0 false
    ∗ (bigSep Finset.univ fun j => dutyTok ER (inCell c j) 0 false)
    ∗ (bigSep Finset.univ fun t : St × Ch => dutyTok ER (sndCell c t.1 t.2) 0 false)
    ∗ bigSep Finset.univ fun t : St × Ch => dutyTok ER (rcvCell (pr t.1 t.2 c) t.1 t.2) 0 false)

omit [FloatOps F] in
theorem toks_eq (c : Dev nD) :
    (toks c : sProp 𝕄) = iprop(dutyTok ER (barCell c) 0 true ∗ dutyTok ER (barCell c) 0 false
    ∗ (bigSep Finset.univ fun j => dutyTok ER (inCell c j) 0 false)
    ∗ (bigSep Finset.univ fun t : St × Ch => dutyTok ER (sndCell c t.1 t.2) 0 false)
    ∗ bigSep Finset.univ fun t : St × Ch => dutyTok ER (rcvCell c t.1 t.2) 0 false) := by
  unfold toks; rw [all_split, own_split]; rfl

omit [FloatOps F] in
/-- A receive's token goes to the partner whose send it is. -/
theorem rcv_around :
    (bigSep Finset.univ fun c : Dev nD => bigSep Finset.univ fun t : St × Ch => (dutyTok ER (rcvCell c t.1 t.2) 0 false : sProp 𝕄))
      = bigSep Finset.univ fun c : Dev nD => bigSep Finset.univ fun t : St × Ch => dutyTok ER (rcvCell (pr t.1 t.2 c) t.1 t.2) 0 false := by
  rw [BI.bigSep_univ_comm, BI.bigSep_univ_comm (fun (c : Dev nD) (t : St × Ch) => (dutyTok ER (rcvCell (pr t.1 t.2 c) t.1 t.2) 0 false : sProp 𝕄))]
  exact bigSep_congr fun t _ => bigSep_univ_equiv (prE t.1 t.2) fun c : Dev nD => (dutyTok ER (rcvCell c t.1 t.2) 0 false : sProp 𝕄)

omit [FloatOps F] in
theorem toks_around : (bigSep Finset.univ fun c : Dev nD => (toks c : sProp 𝕄)) ⊢ bigSep Finset.univ fun c : Dev nD => payToks c := by
  unfold payToks
  rw [bigSep_congr (s := Finset.univ) fun (c : Dev nD) _ => toks_eq (F := F) c]
  rw [bigSep_sep', bigSep_sep', bigSep_sep', bigSep_sep', bigSep_sep', bigSep_sep', bigSep_sep', bigSep_sep', rcv_around,
    bigSep_univ_equiv xE (fun c : Dev nD => (dutyTok ER (barCell c) 0 true : sProp 𝕄)),
    bigSep_univ_equiv yE (fun c : Dev nD => (dutyTok ER (barCell c) 0 false : sProp 𝕄))]
  exact Entails.refl _

/-! ## What every device has before the levels and the credits come -/

def recs (K : Dev nD × CK → ℕ) : sProp 𝕄 :=
  iprop((bigSep Finset.univ fun p : Dev nD × CK => cellInv ER (Rd m) (K p) (cell p.1 p.2))
    ∗ bigSep Finset.univ fun p : Dev nD × CK => reached ER (cell p.1 p.2) 0)
instance recs_persistent (K : Dev nD × CK → ℕ) : BI.Persistent (recs m K) := by unfold recs; infer_instance

def linear (c : Dev nD) : sProp 𝕄 := iprop((bigSep Finset.univ fun k : CK => atPos ER (cell c k) 0 ∅ 0) ∗ payToks c)
def G' (c : Dev nD) : sProp 𝕄 := iprop(∃ K, recs m K ∗ linear c)

theorem G'_intro (K : Dev nD × CK → ℕ) (c : Dev nD) : iprop(recs m K ∗ linear c) ⊢ G' m c := by
  unfold G'; iintro H; iexists K; iexact H

theorem regroup :
    (bigSep Finset.univ fun c : Dev nD => iprop((bigSep Finset.univ fun k => iprop(∃ κ : ℕ, cellInv ER (Rd m) κ (cell c k)))
          ∗ ((bigSep Finset.univ fun k : CK => atPos ER (cell c k) 0 ∅ 0) ∗ bigSep Finset.univ fun k : CK => reached ER (cell c k) 0) ∗ toks c) : sProp 𝕄)
      ⊢ bigSep Finset.univ (G' m) := by
  rw [bigSep_sep', bigSep_sep', bigSep_sep',
    ← bigSep_univ_prod (fun p : Dev nD × CK => iprop(∃ κ : ℕ, cellInv ER (Rd m) κ (cell p.1 p.2))),
    ← bigSep_univ_prod (fun p : Dev nD × CK => (reached ER (cell p.1 p.2) 0 : sProp 𝕄))]
  iintro ⟨HI, ⟨Hat, #HR⟩, Htok⟩
  ihave HK := (BI.bigSep_exists_pi Finset.univ (fun (p : Dev nD × CK) (κ : ℕ) => (cellInv ER (Rd m) κ (cell p.1 p.2) : sProp 𝕄))) $$ HI
  icases HK with ⟨%K, #HI⟩
  ihave Htk := (toks_around (F := F)) $$ Htok
  iapply (bigSep_given (R := recs m K) fun c => G'_intro m K c)
  isplitr
  · unfold recs; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits at launch -/

theorem rcvCell_inj {c c' : Dev nD} {p p' : St × Ch} (h : rcvCell c p.1 p.2 = rcvCell c' p'.1 p'.2) : c = c' ∧ p = p' := by
  have h1 := cell_injective (a₁ := (c, kRcv p.1 p.2)) (a₂ := (c', kRcv p'.1 p'.2)) h
  have h2 : kRcv p.1 p.2 = kRcv p'.1 p'.2 := (Prod.mk.inj h1).2
  exact ⟨(Prod.mk.inj h1).1, Sum.inr.inj (Sum.inr.inj (Sum.inr.inj h2))⟩
theorem rcv_ne_bar (c c' : Dev nD) (s : St) (j : Ch) : rcvCell c s j ≠ barCell c' := fun h => by
  have h1 := cell_injective (a₁ := (c, kRcv s j)) (a₂ := (c', kBar)) h
  cases (Prod.mk.inj h1).2
theorem bar_inj {c c' : Dev nD} (h : barCell c = barCell c') : c = c' := congrArg (fun g : GSem nD τ sig => g.1.1) h

/-- The sends owed owe the barriers nothing, -/
theorem owed_bar (d c : Dev nD) (l : List (St × Ch)) : owed d l (barCell c) () = 0 := by
  by_contra h
  obtain ⟨p, -, e⟩ := owed_pos (Nat.pos_of_ne_zero h)
  exact rcv_ne_bar _ _ _ _ e.symm
/-- and a receive semaphore one copy's credit if its partner owes it. -/
theorem owed_rcv (d c : Dev nD) (p : St × Ch) (l : List (St × Ch)) (hl : l.Nodup) :
    owed d l (rcvCell c p.1 p.2) () = if d = pr p.1 p.2 c ∧ p ∈ l then NB else 0 := by
  induction l with
  | nil => rw [if_neg fun h => absurd h.2 (List.not_mem_nil)]; rfl
  | cons q l ih =>
    unfold owed
    rw [Pi.add_apply, Finsupp.add_apply, tallyAt_apply, ih (List.nodup_cons.mp hl).2]
    have hq : q ∉ l := (List.nodup_cons.mp hl).1
    by_cases hd : d = pr p.1 p.2 c
    · by_cases hp : p = q
      · subst hp
        rw [if_neg (fun h => hq h.2), if_pos ⟨by rw [hd, pr_pr], rfl⟩, if_pos ⟨hd, List.mem_cons_self⟩, Nat.zero_add]
      · rw [if_neg (c := rcvCell c p.1 p.2 = _ ∧ _) (fun h => hp (rcvCell_inj h.1).2), Nat.add_zero]
        by_cases hm : p ∈ l
        · rw [if_pos ⟨hd, hm⟩, if_pos ⟨hd, List.mem_cons_of_mem _ hm⟩]
        · rw [if_neg (fun h => hm h.2), if_neg (fun h => (List.mem_cons.mp h.2).elim hp hm)]
    · rw [if_neg (c := d = _ ∧ p ∈ l) (fun h => hd h.1), if_neg (c := d = _ ∧ p ∈ q :: l) (fun h => hd h.1), if_neg]
      rintro ⟨h, -⟩
      obtain ⟨h1, h2⟩ := rcvCell_inj h
      subst h2
      exact hd (by rw [h1, pr_pr])

theorem O₀_bar (d c : Dev nD) : O₀ d (barCell c) () = (if d = yn c then 1 else 0) + (if d = xn c then 1 else 0) := by
  unfold O₀ O₁
  rw [Pi.add_apply, Finsupp.add_apply, Pi.add_apply, Finsupp.add_apply, owed_bar, tallyAt_apply, tallyAt_apply, Nat.zero_add]
  congr 1
  · by_cases h : d = yn c
    · subst h; rw [yn_yn, if_pos ⟨rfl, rfl⟩, if_pos rfl]
    · rw [if_neg (fun h' => h (by rw [bar_inj h'.1, yn_yn])), if_neg h]
  · by_cases h : d = xn c
    · subst h; rw [xn_xn, if_pos ⟨rfl, rfl⟩, if_pos rfl]
    · rw [if_neg (fun h' => h (by rw [bar_inj h'.1, xn_xn])), if_neg h]

theorem O₀_rcv (d c : Dev nD) (p : St × Ch) : O₀ d (rcvCell c p.1 p.2) () = if d = pr p.1 p.2 c then NB else 0 := by
  unfold O₀ O₁
  rw [Pi.add_apply, Finsupp.add_apply, Pi.add_apply, Finsupp.add_apply, owed_rcv d c p sends sends_nodup,
    tallyAt_ne_cell (rcv_ne_bar _ _ _ _), tallyAt_ne_cell (rcv_ne_bar _ _ _ _), Finsupp.zero_apply, Nat.add_zero, Nat.add_zero]
  by_cases h : d = pr p.1 p.2 c
  · rw [if_pos ⟨h, mem_sends p⟩, if_pos h]
  · rw [if_neg (fun h' => h h'.1), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (yn c) fun _ => 1, Finset.sum_ite_eq' Finset.univ (xn c) fun _ => 1, if_pos (Finset.mem_univ _), if_pos (Finset.mem_univ _)]

theorem launch_rcv (c : Dev nD) (p : St × Ch) :
    tallyOn (rcvCell c p.1 p.2) (launchCredit (Pipeline.owing O₀) 0 (rcvCell c p.1 p.2))
      = (tallyAt (rcvCell c p.1 p.2) () NB : CellTallies nD τ sig Unit) := by
  unfold tallyAt; refine congrArg _ (Finsupp.ext fun u => ?_); cases u
  rw [Pipeline.launchCredit_owing, Finsupp.single_eq_same, Finset.sum_congr rfl fun d _ => O₀_rcv d c p,
    Finset.sum_ite_eq' Finset.univ (pr p.1 p.2 c) fun _ => NB, if_pos (Finset.mem_univ _)]

/-- The receive semaphores' names. -/
def rcvName : St × Ch ↪ SemLoc sig :=
  ⟨fun p => .dma (rcvQ p.1 p.2), fun p p' h => by
    have h1 := osem_injective (show osem (.inr (.inr p)) = osem (.inr (.inr p')) from h)
    exact Sum.inr.inj (Sum.inr.inj h1)⟩

omit [FloatOps F] in
theorem creds (c : Dev nD) :
    (Pipeline.launchCred O₀ c : sProp 𝕄) ⊢ iprop(cred (tallyAt (barCell c) () 2)
      ∗ bigSep Finset.univ fun t : St × Ch => cred (tallyAt (rcvCell c t.1 t.2) () NB)) := by
  unfold Pipeline.launchCred
  rw [bigSep_univ_at _ (SemLoc.reg barS), launch_bar]
  refine sep_mono_right ?_
  have hsub : Finset.univ.map rcvName ⊆ Finset.univ.erase (SemLoc.reg barS) := fun sm h => by
    obtain ⟨p, -, rfl⟩ := Finset.mem_map.mp h
    exact Finset.mem_erase.mpr ⟨fun h => (by cases h), Finset.mem_univ _⟩
  refine Entails.trans (BI.bigSep_subset hsub) (Entails.of_eq ?_)
  rw [bigSep_map]
  exact bigSep_congr fun p _ => congrArg cred (launch_rcv c p)

/-! ## A device's first state -/

omit [FloatOps F] in
theorem Lin_all (c : Dev nD) :
    iprop((bigSep Finset.univ fun j => dutyTok ER (inCell c j) 0 false)
        ∗ (bigSep Finset.univ fun t : St × Ch => dutyTok ER (sndCell c t.1 t.2) 0 false)
        ∗ (bigSep Finset.univ fun t : St × Ch => dutyTok ER (rcvCell (pr t.1 t.2 c) t.1 t.2) 0 false)
        ∗ (bigSep Finset.univ fun j => atPos ER (inCell c j) 0 ∅ 0)
        ∗ (bigSep Finset.univ fun t : St × Ch => atPos ER (sndCell c t.1 t.2) 0 ∅ 0)
        ∗ (bigSep Finset.univ fun t : St × Ch => atPos ER (rcvCell c t.1 t.2) 0 ∅ 0)
        ∗ bigSep Finset.univ fun t : St × Ch => cred (tallyAt (rcvCell c t.1 t.2) () NB))
      ⊢ (bigSep Finset.univ fun j => Lin c j : sProp 𝕄) := by
  unfold Lin Half
  rw [two_stages, two_stages, two_stages, two_stages, two_stages]
  simp only [bigSep_sep']
  iintro ⟨Hti, ⟨Hts0, Hts1⟩, ⟨Htr0, Htr1⟩, Hai, ⟨Has0, Has1⟩, ⟨Har0, Har1⟩, Hc0, Hc1⟩
  isplitl [Hti]; · iexact Hti
  isplitl [Hai]; · iexact Hai
  isplitl [Hts0 Htr0 Has0 Har0 Hc0]
  · isplitl [Hts0]; · iexact Hts0
    isplitl [Htr0]; · iexact Htr0
    isplitl [Has0]; · iexact Has0
    isplitl [Har0] <;> iassumption
  · isplitl [Hts1]; · iexact Hts1
    isplitl [Htr1]; · iexact Htr1
    isplitl [Has1]; · iexact Has1
    isplitl [Har1] <;> iassumption

omit [FloatOps F] in
theorem places (c : Dev nD) :
    (bigSep Finset.univ fun k : CK => atPos ER (cell c k) 0 ∅ 0 : sProp 𝕄)
      = iprop(atPos ER (barCell c) 0 ∅ 0 ∗ (bigSep Finset.univ fun j => atPos ER (inCell c j) 0 ∅ 0)
        ∗ (bigSep Finset.univ fun t : St × Ch => atPos ER (sndCell c t.1 t.2) 0 ∅ 0)
        ∗ bigSep Finset.univ fun t : St × Ch => atPos ER (rcvCell c t.1 t.2) 0 ∅ 0) := by
  rw [all_split, own_split]; rfl

omit [FloatOps F] in
theorem unscopedRest_x (c : Dev nD) :
    (Pipeline.unscopedRestP Pipeline.Prefetch.none cfg0.spec c (fun b => m ((c : Thread nD τ).loc b)) : sProp 𝕄) ⊢ xAll m c :=
  Entails.of_eq (by
    rw [show (Pipeline.unscopedRestP Pipeline.Prefetch.none cfg0.spec c (fun b => m ((c : Thread nD τ).loc b)) : sProp 𝕄)
      = Pipeline.unscopedRest cfg0.spec c (fun b => m ((c : Thread nD τ).loc b)) from Pipeline.unscopedRestP_none _ _ _]
    exact unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' linear payToks
  rw [places]
  iintro ⟨Hx, #Hlev, Hcr, -, ⟨%K, #HR, ⟨HaB, Hai, Has, Har⟩, HtX, HtY, Hti, Hts, Htr⟩⟩
  ihave Hx := (unscopedRest_x m c) $$ Hx
  ihave Hc := (creds (F := F) c) $$ Hcr
  icases Hc with ⟨HcB, Hcr⟩
  ihave HL := (Lin_all (F := F) c) $$ [Hti Hts Htr Hai Has Har Hcr]
  · isplitl [Hti]; · iexact Hti
    isplitl [Hts]; · iexact Hts
    isplitl [Htr]; · iexact Htr
    isplitl [Hai]; · iexact Hai
    isplitl [Has]; · iexact Has
    isplitl [Har] <;> iassumption
  imodintro
  unfold start BarLin
  isplitl
  · isplitr
    · iexists K; unfold recs records
      icases HR with ⟨#HI, #HR⟩
      isplitr; · iexact HI
      isplitr; · iexact HR
      iexact Hlev
    isplitl [HtX HtY HaB HcB]
    · isplitl [HtX]; · iexact HtX
      isplitl [HtY]; · iexact HtY
      isplitl [HaB] <;> iassumption
    isplitl [HL] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((xAll m c ∗ unscopedSems0 c) ∗ Pipeline.ownSems0 osem c ∗ Pipeline.scopedRest cfg0.spec c) := by
  rw [show (dats m ρ 0 c).Φ (Fin.last cfg0.N) = Φ₁ m c from rfl, unscoped_eq]
  unfold Φ₁
  iintro ⟨Hx, Hz, Hown, Hr⟩
  isplitl [Hx Hz]
  · isplitl [Hx] <;> iassumption
  isplitl [Hown] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- At the end the input array is read off, and the counters no kernel owns. -/
theorem read_end (c : Dev nD) (s' : Phys nD τ sig (Elt F)) :
    iprop((xAll m c ∗ unscopedSems0 c) ∗ emp ∗ SI s')
      ⊢ (|={Set.univ}=> iprop(⌜s'.mem.mem ((c : Thread nD τ).loc main_arg0) = m ((c : Thread nD τ).loc main_arg0)
          ∧ ∀ sm : SemLoc sig, sm.isScoped .tc = false → s'.mem.sem ((c.tc : Thread nD τ), sm) = 0⌝ ∗ SI s') : sProp 𝕄) := by
  unfold xAll
  iintro ⟨⟨Hx, Hu⟩, -, HSI⟩
  icombine HSI Hx gives %hx
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ hx, hu⟩
  iexact HSI

/-! ## The run -/

/-- What device `c`'s result array holds in the end. -/
def finalA (c : Dev nD) (w : Fin cfg0.W) : Buf (Elt F) ((cfg0.win w).arr.view.loc (c : Thread nD τ)) := (dats m ρ 0 c).arrAt w cfg0.N

set_option maxRecDepth 8000 in
/-- Every execution ends, with the result arrays as computed, the input arrays as they were, every counter at zero. -/
theorem run : θ_run defs (onTc (τ := τ) (main (F := F))) (s₀ m ρ) (fun r =>
    ((∀ (c : Dev nD) (w : Fin cfg0.W), r.2.mem ((cfg0.win w).arr.view.loc (c : Thread nD τ)) = finalA m ρ c w)
      ∧ ∀ c : Dev nD, r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(xAll m c ∗ unscopedSems0 c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_end m)
    (hQ := fun _ h hs => ⟨⟨fun c w => (h c).1 w, fun c => (h c).2.2.1⟩, sem_eq_zero hs fun c => (h c).2.2.2⟩)

end Launch

end Cert.KernelIdeal.Hier
end
-- ==== Proof.KernelIdeal.Result.lean ====
/-
# Result: the result array after the run

The one write-back of the pipeline covers the whole result array, so the run leaves there what the body left in the
staging buffer: the sum as each device forms it.
-/
module

public import proofs.«01_k».proof.Proof.KernelIdeal.Launch
public import proofs.«01_k».proof.Proof.Gen.KernelIdeal.Points
public import Idealize.ShloMosaic.Lib.Pipeline.ValueKit.Geometry

@[expose] public section

noncomputable section

namespace Cert.KernelIdeal.Hier

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array ends as the body's staging buffer. -/
theorem finalA_eq (c : Dev nD) : finalA m ρ c 0 = oV m c :=
  (dats m ρ 0 c).arrAt_eq_of_after_last 0 t0_0 (by decide +kernel) (oV m c) fun j => rfl

/-- Every execution ends; on each device the result array holds the device's sum, the input array is as it was, and
every counter is at zero. -/
theorem run_sum : θ_run defs (onTc (τ := τ) (main (F := F))) (s₀ m ρ) (fun r =>
    (∀ c : Dev nD, r.2.mem ((c : Thread nD τ).loc main_v1) = oV m c
      ∧ r.2.mem ((c : Thread nD τ).loc main_arg0) = m ((c : Thread nD τ).loc main_arg0)) ∧ r.2.sem = fun _ => 0) :=
  (θ_run defs _ _).mono (fun _ h => ⟨fun c => ⟨(h.1.1 c 0).trans (finalA_eq m ρ c), h.1.2 c⟩, h.2⟩) (run m ρ)

/-- The frame: every execution ends with the input array as it was and every counter at zero. -/
theorem run_frame : θ_run defs (onTc (τ := τ) (main (F := F))) (s₀ m ρ) (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_sum m ρ)

end Cert.KernelIdeal.Hier
end
-- ==== Proof.Value.lean ====
/-
# Value: the kernel's sum is the reference's

Over the extended reals a change of format is the identity, so each device ends with the sum of four blocks in the order
its exchanges take, and the reference is the sum over the whole array's two leading axes. The blocks are the whole
array's at the devices' places on the mesh, and the order of a sum does not matter.
-/
module

public import proofs.«01_k».proof.Defs
public import proofs.«01_k».proof.Proof.KernelIdeal.Geometry
public import proofs.«01_k».proof.Proof.Gen.ReferenceIdeal
public import proofs.«01_k».proof.Proof.Gen.ReferenceIdeal.Run
public import Idealize.ShloMosaic.Lib.Pointwise.Reduce
public import Idealize.ShloMosaic.Lib.Pointwise.Tactic
public import Idealize.ShloMosaic.Lib.Quiescent

@[expose] public section

noncomputable section

namespace Cert.Value

open Idealize.ShloMosaic
open Idealize.ShloMosaic.TcCoe
open Cert.ReferenceIdeal Cert.ReferenceIdeal.Gen
open Idealize.SL.Sem

/-! ## The reference -/

/-- The whole input array: a block of 256 by 256 for each place of the 2 by 2 mesh. -/
abbrev Whole : Shape := ⟨4, ![2, 2, 256, 256]⟩
/-- One block, and the result. -/
abbrev Block : Shape := ⟨2, ![256, 256]⟩

/-- An index of the whole array drops to `j` when its last two coordinates are `j`'s. -/
theorem drop_iff (h : Whole.ReducesTo [0, 1] Block) (j : Block.Idx) (i : Whole.Idx) :
    h.drop i = j ↔ ∃ p : Fin 2 × Fin 2, ValueIdx.ix4 p.1 p.2 (j 0) (j 1) = i := by
  constructor
  · rintro rfl
    refine ⟨(i 0, i 1), funext fun a => Fin.ext ?_⟩
    match a with
    | ⟨0, _⟩ => rfl
    | ⟨1, _⟩ => rfl
    | ⟨2, _⟩ => exact h.drop_apply_val_of_eq i 0 2
    | ⟨3, _⟩ => exact h.drop_apply_val_of_eq i 1 3
  · rintro ⟨p, rfl⟩
    refine funext fun a => Fin.ext ?_
    match a with
    | ⟨0, _⟩ => exact h.drop_apply_val_of_eq _ 0 2
    | ⟨1, _⟩ => exact h.drop_apply_val_of_eq _ 1 3

/-- The sum of the four blocks of a whole array, at one place. -/
def blockSum (v : Whole.Idx → EReal) (j : Block.Idx) : EReal :=
  v (ValueIdx.ix4 (0 : Fin 2) (0 : Fin 2) (j 0) (j 1)) + v (ValueIdx.ix4 (0 : Fin 2) (1 : Fin 2) (j 0) (j 1))
    + (v (ValueIdx.ix4 (1 : Fin 2) (0 : Fin 2) (j 0) (j 1)) + v (ValueIdx.ix4 (1 : Fin 2) (1 : Fin 2) (j 0) (j 1)))

/-- A sum over the two leading axes is the sum of the four blocks. -/
theorem sum_lead (h : Whole.ReducesTo [0, 1] Block) (v : Whole.Idx → EReal) (j : Block.Idx) :
    ∑ i ∈ Finset.univ.filter (fun i => h.drop i = j), v i = blockSum v j := by
  rw [Finset.sum_filter_eq_sum_of_fiber _ (fun p : Fin 2 × Fin 2 => (ValueIdx.ix4 p.1 p.2 (j 0) (j 1) : Whole.Idx))
    (fun _ _ e => Prod.ext (congrFun e 0) (congrFun e 1)) (drop_iff h j) v]
  simp only [Fintype.sum_prod_type, Fin.sum_univ_two]
  rfl

/-- The word zero is the real zero. -/
theorem zero_word (k : S_.Idx) : constant (F := Ideal) S_ .f32 0x00000000#32 k = (0 : EReal) := Ideal.ofBits_zero .f32

/-- The reference's result: the sum of the four blocks. -/
theorem reference_eq (v : FVec Ideal S2x2x256x256 .f32) :
    truncf (F := Ideal) .bf16 (Host.reduceAdd (extf .f32 (truncf .bf16 v bitsLt_bf16_f32) bitsLt_bf16_f32)
      (constant S_ .f32 0x00000000#32) reducesTo_S2x2x256x256_S256x256_d0_1 h_S_)
      bitsLt_bf16_f32 = blockSum v := by
  funext j
  refine Eq.trans (congrArg (· + _) (zero_word (Shape.Idx.first h_S_))) ((zero_add _).trans (sum_lead reducesTo_S2x2x256x256_S256x256_d0_1 v j))

/-- The reference runs: its result is the sum of the four blocks of its argument, which is unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = blockSum (m ((c.tc : Thread nD τ).loc main_arg0))
      ∧ r.2.mem ((c.tc : Thread nD τ).loc main_arg0) = m ((c.tc : Thread nD τ).loc main_arg0) :=
  (θ_run defs _ _).mono (fun _ h c => ⟨(h c).1.trans (reference_eq _), (h c).2⟩) (Cert.ReferenceIdeal.Value.run m ρ)

/-- The reference's frame: its argument ends unchanged; it has no semaphore. -/
theorem reference_frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun _ h => ⟨fun c => (h c).2, sem_eq_zero_of_no_sems rfl _⟩) (reference_run m ρ)

/-! ## The kernel -/

section Kernel

open Cert.KernelIdeal.Hier

/-- Summing first along one axis of the mesh and then along the other, from any device, gives the sum over the four
devices. -/
theorem sum_pairs (w : Fin 4 → EReal) (s : Fin 2) (j : Fin 8) (c : Fin 4) :
    (w c + w (pr s j c)) + (w (pr (1 - s) j c) + w (pr s j (pr (1 - s) j c))) = (w 0 + w 1) + (w 2 + w 3) := by
  have h : ∀ (s : Fin 2) (j : Fin 8) (c : Fin 4),
      ({c, pr s j c, pr (1 - s) j c, pr s j (pr (1 - s) j c)} : Multiset (Fin 4)) = {0, 1, 2, 3} := by decide
  have e := congrArg (fun t => (t.map w).sum) (h s j c)
  simpa [add_assoc] using e

variable (m : (ℓ : Loc Cert.KernelIdeal.nD Cert.KernelIdeal.τ Cert.KernelIdeal.sig) → Buf (Elt Ideal) ℓ)

/-- Where each device's argument is its block of the whole array `v`, the block's element `i` is the whole array's at the
device's place on the mesh. -/
theorem block_at (v : Whole.Idx → EReal) (c : Dev Cert.KernelIdeal.nD)
    (h : m ((c.tc : Thread Cert.KernelIdeal.nD Cert.KernelIdeal.τ).loc Cert.KernelIdeal.main_arg0)
      = Layout.blockN ⟨4, ![1, 1, 256, 256]⟩ ⟨4, ![2, 2, 256, 256]⟩ (Layout.meshBlock [2, 2] ![[0], [1], [], []] c) v)
    (i : Block.Idx) (x y : Fin 2) (hc : c.val = 2 * x.val + y.val) :
    bV m c i = v (ValueIdx.ix4 x y (i 0) (i 1)) := by
  refine (congrFun h (up4 i)).trans ?_
  rw [Layout.blockN_apply]
  refine congrArg v (funext fun a => Fin.ext ?_)
  rw [Layout.TilesN.idx_val]
  have hx := x.isLt
  have hy := y.isLt
  match a with
  | ⟨0, _⟩ => show ((c.val / 2) % 2 * 1 + 0) * 1 + 0 = x.val; omega
  | ⟨1, _⟩ => show ((c.val / 1) % 2 * 1 + 0) * 1 + 0 = y.val; omega
  | ⟨2, _⟩ => show 0 * 256 + (i 0).val = (i 0).val; omega
  | ⟨3, _⟩ => show 0 * 256 + (i 1).val = (i 1).val; omega

/-- Every device ends with the sum of the four blocks. -/
theorem kernel_eq (v : Whole.Idx → EReal)
    (h : ∀ c : Dev Cert.KernelIdeal.nD, m ((c.tc : Thread Cert.KernelIdeal.nD Cert.KernelIdeal.τ).loc Cert.KernelIdeal.main_arg0)
      = Layout.blockN ⟨4, ![1, 1, 256, 256]⟩ ⟨4, ![2, 2, 256, 256]⟩ (Layout.meshBlock [2, 2] ![[0], [1], [], []] c) v)
    (c : Dev Cert.KernelIdeal.nD) : oV m c = blockSum v := by
  funext i
  refine (sum_pairs (fun d => bV m d i) 0 (ch i) c).trans ?_
  unfold blockSum
  rw [block_at m v 0 (h 0) i 0 0 rfl, block_at m v 1 (h 1) i 0 1 rfl, block_at m v 2 (h 2) i 1 0 rfl,
    block_at m v 3 (h 3) i 1 1 rfl]

end Kernel

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Kernel.Result
public import proofs.«01_k».proof.Proof.KernelIdeal.Result
public import proofs.«01_k».proof.Proof.Value
public import Idealize.ShloMosaic.Init

@[expose] public section

noncomputable section

namespace Cert.Proof

open Idealize.ShloMosaic Idealize.SL.Sem

/-- Over the extended reals every device's result is the reference's: both are the sum of the four blocks. -/
theorem same_sum : Cert.algebraic_KernelIdeal_ReferenceIdeal (hKernelIdeal := Cert.KernelIdeal.Gen.facts)
    (hReferenceIdeal := Cert.ReferenceIdeal.Gen.facts) := by
  intro m g m' g' _ hblk
  refine ⟨Cert.Value.blockSum (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨(h.1 c).1.trans (Cert.Value.kernel_eq m _ hblk c), (h.1 c).2⟩) (Cert.KernelIdeal.Hier.run_sum m g)
  · exact (θ_run Cert.ReferenceIdeal.defs _ _).mono (fun _ h => h 0) (Cert.Value.reference_run m' g')

/-- The five claims. -/
theorem claim : Cert.Claim := ⟨Cert.Kernel.Gen.facts, Cert.KernelIdeal.Gen.facts, Cert.ReferenceIdeal.Gen.facts,
  fun m g _ => Cert.Kernel.Hier.run_frame m g, fun m g _ => Cert.KernelIdeal.Hier.run_frame m g,
  fun m g _ => Cert.Value.reference_frame m g, trivial, same_sum⟩

end Cert.Proof

end
